-- ==== Defs.lean ====
def Pre_Kernel (m : (ℓ : Loc Cert.Kernel.nD Cert.Kernel.τ Cert.Kernel.sig) → Buf (Elt Bits) ℓ) : Prop :=
  True

def Pre_Kernel_router_inputs [hPre_router_inputs : Cert.Pre_router_inputs.Facts] (m : (ℓ : Loc Cert.Kernel.nD Cert.Kernel.τ Cert.Kernel.sig) → Buf (Elt Bits) ℓ) : Prop :=
  ∀ c : Dev Cert.Kernel.nD,
    (Cert.Pre_router_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_router_inputs : Cert.Pre_router_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_router_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_inputs [hPre_router_inputs : Cert.Pre_router_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_router_inputs [hKernel : Cert.Kernel.Facts] [hPre_router_inputs : Cert.Pre_router_inputs.Facts] : Prop :=
  ∀ (m : (ℓ : Loc Cert.Kernel.nD Cert.Kernel.τ Cert.Kernel.sig) → Buf (Elt Bits) ℓ) (g : Dev Cert.Kernel.nD → PrngReg), Pre_Kernel_router_inputs m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_router_inputs : Cert.Pre_router_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_router_inputs [hReferenceIdeal : Cert.ReferenceIdeal.Facts] [hPre_router_inputs : Cert.Pre_router_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_router_inputs : Cert.Pre_router_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_router_inputs : Cert.Pre_router_inputs.Facts),
    quiescent_Kernel (hKernel := hKernel)
    ∧ quiescent_Kernel_pre_router_inputs (hKernel := hKernel) (hPre_router_inputs := hPre_router_inputs)
    ∧ quiescent_KernelIdeal (hKernelIdeal := hKernelIdeal) (hPre_router_inputs := hPre_router_inputs)
    ∧ quiescent_ReferenceIdeal (hReferenceIdeal := hReferenceIdeal)
    ∧ quiescent_ReferenceIdeal_pre_router_inputs (hReferenceIdeal := hReferenceIdeal) (hPre_router_inputs := hPre_router_inputs)
    ∧ preserves_Kernel_KernelIdeal
    ∧ algebraic_KernelIdeal_ReferenceIdeal (hKernelIdeal := hKernelIdeal) (hReferenceIdeal := hReferenceIdeal) (hPre_router_inputs := hPre_router_inputs)
-- ==== Pre_router_inputs.lean ====
abbrev S4x4096x4096 : Shape := ⟨3, ![4, 4096, 4096]⟩
abbrev S4x4096 : Shape := ⟨2, ![4, 4096]⟩
abbrev S64x4096 : Shape := ⟨2, ![64, 4096]⟩
abbrev S64 : Shape := ⟨1, ![64]⟩
abbrev S16384x4096 : Shape := ⟨2, ![16384, 4096]⟩
abbrev S4096x64 : Shape := ⟨2, ![4096, 64]⟩
abbrev S16384x64 : Shape := ⟨2, ![16384, 64]⟩
abbrev S16384x9 : Shape := ⟨2, ![16384, 9]⟩
abbrev S16384x8 : Shape := ⟨2, ![16384, 8]⟩
abbrev S_ : Shape := ⟨0, ![]⟩

class Facts : Prop where
  shapeCasts_S4x4096x4096_S16384x4096 : S4x4096x4096.ShapeCasts S16384x4096
  transposes_S64x4096_S4096x64_1_0 : S64x4096.Transposes [1, 0] S4096x64
  sliceFits_S16384x64_S16384x9 : S16384x64.Slices (fun _ => 0) S16384x9
  slices_S16384x9_S16384x8_0_0 : S16384x9.Slices ![0, 0] S16384x8
  slices_S16384x9_S16384x8_0_1 : S16384x9.Slices ![0, 1] S16384x8
  reducesTo_S16384x8_S_d0_1 : S16384x8.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64 : S_.BroadcastsInDim S64 (![] : Fin 0 → Fin S64.rank)
  reducesTo_S64_S_d0 : S64.ReducesTo [0] S_
  dot_S16384x4096_S4096x64_S16384x64_1_0_0_1_n_n_wf : DotDims.WF S16384x4096 S4096x64 S16384x64 [1] [0] [0] [1] [] []

variable [Facts]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def fn_part1 {F : FTy → Type} [FloatOps F] (main_v6 : IVec S_ 1) (main_v9 : IVec S_ 1) (main_v12 : IVec S_ 1) (main_v14 : IVec S64 1) (main_c_4 : IVec S_ 1) : IVec S_ 1 :=
  let main_v15 : IVec S_ 1 := (fun x v => Host.reduce IntOp.andi x v reducesTo_S64_S_d0 h_S_) main_v14 main_c_4
  let main_v16 : IVec S_ 1 := andi main_v12 main_v15
  let main_v17 : IVec S_ 1 := andi main_v6 main_v9
  let main_v18 : IVec S_ 1 := andi main_v17 main_v16
  main_v18

def fn {F : FTy → Type} [FloatOps F] (main_arg0 : FVec F S4x4096x4096 .f32) (main_arg1 : IVec S4x4096 1) (main_arg2 : FVec F S64x4096 .f32) (main_arg3 : FVec F S64 .f32) (main_arg4 : FVec F S64 .f32) : IVec S_ 1 :=
  let main_v0 : FVec F S16384x4096 .f32 := shapeCast S16384x4096 main_arg0 shapeCasts_S4x4096x4096_S16384x4096
  let main_v1 : FVec F S4096x64 .f32 := (transpose S4096x64 [1, 0] · transposes_S64x4096_S4096x64_1_0) main_arg2
  let main_v2 : FVec F S16384x64 .f32 := (fun l r => Host.dotGeneral dot_S16384x4096_S4096x64_S16384x64_1_0_0_1_n_n none l r) main_v0 main_v1
  let main_values : FVec F S16384x9 .f32 := (fun x => (Host.topK S16384x9 1 (FloatOps.cmpfTotal .gt) x sliceFits_S16384x64_S16384x9).1) main_v2
  let main_indices : IVec S16384x9 32 := (fun x => (Host.topK S16384x9 1 (FloatOps.cmpfTotal .gt) x sliceFits_S16384x64_S16384x9).2) main_v2
  let main_v3 : FVec F S16384x8 .f32 := (extractStridedSlice S16384x8 ![0, 0] · slices_S16384x9_S16384x8_0_0) main_values
  let main_v4 : FVec F S16384x8 .f32 := (extractStridedSlice S16384x8 ![0, 1] · slices_S16384x9_S16384x8_0_1) main_values
  let main_v5 : IVec S16384x8 1 := cmpf .ogt main_v3 main_v4
  let main_c : IVec S_ 1 := constantI S_ 1 1#1
  let main_v6 : IVec S_ 1 := (fun x v => Host.reduce IntOp.andi x v reducesTo_S16384x8_S_d0_1 h_S_) main_v5 main_c
  let main_cst : FVec F S_ .f32 := constant S_ .f32 0xFF800000#32
  let main_v7 : FVec F S16384x64 .f32 := broadcastInDim S16384x64 ![] bcast_S_S16384x64 main_cst
  let main_v8 : IVec S16384x64 1 := cmpf .ogt main_v2 main_v7
  let main_c_0 : IVec S_ 1 := constantI S_ 1 1#1
  let main_v9 : IVec S_ 1 := (fun x v => Host.reduce IntOp.andi x v reducesTo_S16384x64_S_d0_1 h_S_) main_v8 main_c_0
  let main_cst_1 : FVec F S_ .f32 := constant S_ .f32 0x00000000#32
  let main_v10 : FVec F S64 .f32 := broadcastInDim S64 ![] bcast_S_S64 main_cst_1
  let main_v11 : IVec S64 1 := cmpf .oeq main_arg3 main_v10
  let main_c_2 : IVec S_ 1 := constantI S_ 1 1#1
  let main_v12 : IVec S_ 1 := (fun x v => Host.reduce IntOp.andi x v reducesTo_S64_S_d0 h_S_) main_v11 main_c_2
  let main_cst_3 : FVec F S_ .f32 := constant S_ .f32 0x00000000#32
  let main_v13 : FVec F S64 .f32 := broadcastInDim S64 ![] bcast_S_S64 main_cst_3
  let main_v14 : IVec S64 1 := cmpf .oeq main_arg4 main_v13
  let main_c_4 : IVec S_ 1 := constantI S_ 1 1#1
  fn_part1 (F := F) main_v6 main_v9 main_v12 main_v14 main_c_4
-- ==== Kernel.lean ====
abbrev S4x4096x4096 : Shape := ⟨3, ![4, 4096, 4096]⟩
abbrev S4x4096 : Shape := ⟨2, ![4, 4096]⟩
abbrev S64x4096 : Shape := ⟨2, ![64, 4096]⟩
abbrev S64 : Shape := ⟨1, ![64]⟩
abbrev S16384x4096 : Shape := ⟨2, ![16384, 4096]⟩
abbrev S16x1x1024 : Shape := ⟨3, ![16, 1, 1024]⟩
abbrev S16384x8 : Shape := ⟨2, ![16384, 8]⟩
abbrev S1x64 : Shape := ⟨2, ![1, 64]⟩
abbrev S1x1 : Shape := ⟨2, ![1, 1]⟩
abbrev S1024x4096 : Shape := ⟨2, ![1024, 4096]⟩
abbrev S1x1x1024 : Shape := ⟨3, ![1, 1, 1024]⟩
abbrev S1024x8 : Shape := ⟨2, ![1024, 8]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S1x1x64 : Shape := ⟨3, ![1, 1, 64]⟩
abbrev S1 : Shape := ⟨1, ![1]⟩
abbrev S1x1x1 : Shape := ⟨3, ![1, 1, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i1⟩
  | .hbm, ⟨2, _⟩ => ⟨S64x4096, .f32⟩
  | .hbm, ⟨3, _⟩ => ⟨S64, .f32⟩
  | .hbm, ⟨4, _⟩ => ⟨S64, .f32⟩
  | .hbm, ⟨5, _⟩ => ⟨S16384x4096, .f32⟩
  | .hbm, ⟨6, _⟩ => ⟨S16x1x1024, .i1⟩
  | .hbm, ⟨7, _⟩ => ⟨S16x1x1024, .f32⟩
  | .hbm, ⟨8, _⟩ => ⟨S16384x8, .i32⟩
  | .hbm, ⟨9, _⟩ => ⟨S16384x8, .f32⟩
  | .hbm, ⟨10, _⟩ => ⟨S1x64, .f32⟩
  | .hbm, ⟨11, _⟩ => ⟨S1x1, .f32⟩
  | .local _ .vmem, ⟨0, _⟩ => ⟨S1024x4096, .f32⟩
  | .local _ .vmem, ⟨1, _⟩ => ⟨S1024x4096, .f32⟩
  | .local _ .vmem, ⟨2, _⟩ => ⟨S1x1x1024, .f32⟩
  | .local _ .vmem, ⟨3, _⟩ => ⟨S1x1x1024, .f32⟩
  | .local _ .vmem, ⟨4, _⟩ => ⟨S64x4096, .f32⟩
  | .local _ .vmem, ⟨5, _⟩ => ⟨S1024x8, .i32⟩
  | .local _ .vmem, ⟨6, _⟩ => ⟨S1024x8, .i32⟩
  | .local _ .vmem, ⟨7, _⟩ => ⟨S1024x8, .f32⟩
  | .local _ .vmem, ⟨8, _⟩ => ⟨S1024x8, .f32⟩
  | .local _ .vmem, ⟨9, _⟩ => ⟨S1x64, .f32⟩
  | .local _ .vmem, ⟨10, _⟩ => ⟨S1x1, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v86 : BitVec 1 := Scalar.cmpi .eq arg0 c0_i32
  let v87 : BitVec 32 := Scalar.extui v86
  let c0_i32_29 : BitVec 32 := 0#32
  let v88 : BitVec 1 := Scalar.cmpi .ne v87 c0_i32_29
  v88

def k0_cond2 (i : grid0.Coords) : BitVec 1 :=
  let arg0 : BitVec 32 := BitVec.ofNat 32 (i 0).val
  let c0_i32_30 : BitVec 32 := 0#32
  let v89 : BitVec 1 := Scalar.cmpi .sgt arg0 c0_i32_30
  let v90 : BitVec 32 := Scalar.extui v89
  let c0_i32_31 : BitVec 32 := 0#32
  let v91 : BitVec 1 := Scalar.cmpi .ne v90 c0_i32_31
  v91

def k0_cond3 (i : grid0.Coords) : BitVec 1 :=
  let arg0 : BitVec 32 := BitVec.ofNat 32 (i 0).val
  let c15_i32 : BitVec 32 := 15#32
  let v92 : BitVec 1 := Scalar.cmpi .eq arg0 c15_i32
  let v93 : BitVec 32 := Scalar.extui v92
  let c0_i32_32 : BitVec 32 := 0#32
  let v94 : BitVec 1 := Scalar.cmpi .ne v93 c0_i32_32
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x4096x4096 : Shape := ⟨3, ![4, 4096, 4096]⟩
abbrev S4x4096 : Shape := ⟨2, ![4, 4096]⟩
abbrev S64x4096 : Shape := ⟨2, ![64, 4096]⟩
abbrev S64 : Shape := ⟨1, ![64]⟩
abbrev S16384x4096 : Shape := ⟨2, ![16384, 4096]⟩
abbrev S16384 : Shape := ⟨1, ![16384]⟩
abbrev S4096x64 : Shape := ⟨2, ![4096, 64]⟩
abbrev S16384x64 : Shape := ⟨2, ![16384, 64]⟩
abbrev S1x64 : Shape := ⟨2, ![1, 64]⟩
abbrev S_ : Shape := ⟨0, ![]⟩
abbrev S16384x8 : Shape := ⟨2, ![16384, 8]⟩
abbrev S16384x8x1 : Shape := ⟨3, ![16384, 8, 1]⟩
abbrev S1 : Shape := ⟨1, ![1]⟩
abbrev S1x1x1 : Shape := ⟨3, ![1, 1, 1]⟩
abbrev S16384x1 : Shape := ⟨2, ![16384, 1]⟩
abbrev S131072 : Shape := ⟨1, ![131072]⟩
abbrev S131072x1 : Shape := ⟨2, ![131072, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i1⟩
  | .hbm, ⟨2, _⟩ => ⟨S64x4096, .f32⟩
  | .hbm, ⟨3, _⟩ => ⟨S64, .f32⟩
  | .hbm, ⟨4, _⟩ => ⟨S64, .f32⟩
  | .hbm, ⟨5, _⟩ => ⟨S16384x4096, .f32⟩
  | .hbm, ⟨6, _⟩ => ⟨S16384, .i1⟩
  | .hbm, ⟨7, _⟩ => ⟨S4096x64, .f32⟩
  | .hbm, ⟨8, _⟩ => ⟨S16384x64, .f32⟩
  | .hbm, ⟨9, _⟩ => ⟨S1x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384x64, .f32⟩
  | .hbm, ⟨19, _⟩ => ⟨S16384x64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S16384x8, .f32⟩
  | .hbm, ⟨24, _⟩ => ⟨S16384x8, .i32⟩
  | .hbm, ⟨25, _⟩ => ⟨S_, .i32⟩
  | .hbm, ⟨26, _⟩ => ⟨S16384x8, .i32⟩
  | .hbm, ⟨27, _⟩ => ⟨S16384x8, .i1⟩
  | .hbm, ⟨28, _⟩ => ⟨S_, .i32⟩
  | .hbm, ⟨29, _⟩ => ⟨S16384x8, .i32⟩
  | .hbm, ⟨30, _⟩ => ⟨S16384x8, .i32⟩
  | .hbm, ⟨31, _⟩ => ⟨S16384x8, .i32⟩
  | .hbm, ⟨32, _⟩ => ⟨S16384x8x1, .i32⟩
  | .hbm, ⟨33, _⟩ => ⟨S1, .i32⟩
  | .hbm, ⟨34, _⟩ => ⟨S_, .i32⟩
  | .hbm, ⟨35, _⟩ => ⟨S16384x8x1, .i32⟩
  | .hbm, ⟨36, _⟩ => ⟨S16384x8x1, .i1⟩
  | .hbm, ⟨37, _⟩ => ⟨S1x1x1, .i32⟩
  | .hbm, ⟨38, _⟩ => ⟨S16384x8x1, .i32⟩
  | .hbm, ⟨39, _⟩ => ⟨S16384x8x1, .i1⟩
  | .hbm, ⟨40, _⟩ => ⟨S16384x8x1, .i1⟩
  | .hbm, ⟨41, _⟩ => ⟨S_, .i1⟩
  | .hbm, ⟨42, _⟩ => ⟨S16384x8, .i1⟩
  | .hbm, ⟨43, _⟩ => ⟨S16384x8, .f32⟩
  | .hbm, ⟨44, _⟩ => ⟨S_, .f32⟩
  | .hbm, ⟨45, _⟩ => ⟨S16384x8, .f32⟩
  | .hbm, ⟨46, _⟩ => ⟨S16384x8, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S16384x8, .f32⟩
  | .hbm, ⟨51, _⟩ => ⟨S16384x8, .f32⟩
  | .hbm, ⟨52, _⟩ => ⟨S16384, .f32⟩
  | .hbm, ⟨53, _⟩ => ⟨S16384x8, .f32⟩
  | .hbm, ⟨54, _⟩ => ⟨S131072, .f32⟩
  | .hbm, ⟨55, _⟩ => ⟨S_, .f32⟩
  | .hbm, ⟨56, _⟩ => ⟨S64, .f32⟩
  | .hbm, ⟨57, _⟩ => ⟨S131072, .i32⟩
  | .hbm, ⟨58, _⟩ => ⟨S_, .i32⟩
  | .hbm, ⟨59, _⟩ => ⟨S131072, .i32⟩
  | .hbm, ⟨60, _⟩ => ⟨S131072, .i1⟩
  | .hbm, ⟨61, _⟩ => ⟨S_, .i32⟩
  | .hbm, ⟨62, _⟩ => ⟨S131072, .i32⟩
  | .hbm, ⟨63, _⟩ => ⟨S131072, .i32⟩
  | .hbm, ⟨64, _⟩ => ⟨S131072, .i32⟩
  | .hbm, ⟨65, _⟩ => ⟨S131072x1, .i32⟩
  | .hbm, ⟨66, _⟩ => ⟨S64, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1x1, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_v25 : Ref sig .tc := ⟨.hbm, 57, rfl⟩
abbrev main_c : Ref sig .tc := ⟨.hbm, 58, rfl⟩
abbrev main_v26 : Ref sig .tc := ⟨.hbm, 59, rfl⟩
abbrev main_v27 : Ref sig .tc := ⟨.hbm, 60, rfl⟩
abbrev main_c_3 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_4 : Ref sig .tc := ⟨.hbm, 67, rfl⟩
abbrev main_v33 : Ref sig .tc := ⟨.hbm, 68, rfl⟩
abbrev main_cst_5 : Ref sig .tc := ⟨.hbm, 69, rfl⟩
abbrev main_v34 : Ref sig .tc := ⟨.hbm, 70, rfl⟩
abbrev main_cst_6 : Ref sig .tc := ⟨.hbm, 71, rfl⟩
abbrev main_v35 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩

abbrev nD : Nat := 1
abbrev τ : Topo := Topo.v7x

variable {F : FTy → Type} [FloatOps F]
-- ==== Proof.Router.Rounds.lean ====
/- Top-k of one row by rounds: a round takes the first greatest position of the row and puts −∞ there. The module
   defines the rounds on rows of 64 extended reals and proves that the k-th round's position is the one a stable sort,
   greatest first, puts at place k. -/
module

public import Idealize.ShloMosaic.Lib.SortPrefix
public import Idealize.ShloMosaic.PureOps.Ideal

@[expose] public section

noncomputable section

namespace Cert.Router

open Idealize.ShloMosaic

/-- A row of 64 logits, one per expert. -/
abbrev Row : Type := Fin 64 → EReal

/-- The positions where a row is greatest: there is one. -/
theorem greatest_nonempty (l : Row) : (Finset.univ.filter fun e : Fin 64 => ∀ e', l e' ≤ l e).Nonempty := by
  obtain ⟨e, -, he⟩ := Finset.exists_max_image (Finset.univ : Finset (Fin 64)) l ⟨0, Finset.mem_univ _⟩
  exact ⟨e, Finset.mem_filter.mpr ⟨Finset.mem_univ _, fun e' => he e' (Finset.mem_univ _)⟩⟩

/-- The first position at which a row is greatest. -/
def pick (l : Row) : Fin 64 := (Finset.univ.filter fun e : Fin 64 => ∀ e', l e' ≤ l e).min' (greatest_nonempty l)

/-- No entry exceeds the one at the picked position. -/
theorem le_pick (l : Row) (e : Fin 64) : l e ≤ l (pick l) :=
  (Finset.mem_filter.mp (Finset.min'_mem _ (greatest_nonempty l))).2 e

/-- Every entry before the picked position is strictly smaller. -/
theorem lt_pick (l : Row) (e : Fin 64) (h : e < pick l) : l e < l (pick l) := by
  by_contra hn
  refine absurd (Finset.min'_le _ e (Finset.mem_filter.mpr ⟨Finset.mem_univ _, fun e' => ?_⟩)) (not_le.mpr h)
  exact (le_pick l e').trans (not_lt.mp hn)

/-- The row after one round: −∞ at the picked position. -/
def strike (l : Row) : Row := fun e => if e = pick l then ⊥ else l e

/-- The row before round `k`. -/
def work (l : Row) : ℕ → Row
  | 0 => l
  | k + 1 => strike (work l k)

/-- The position round `k` takes. -/
def sel (l : Row) (k : ℕ) : Fin 64 := pick (work l k)

/-- Before round `k` a position taken by an earlier round holds −∞, any other its own entry. -/
theorem work_eq (l : Row) (k : ℕ) (e : Fin 64) :
    (work l k e = ⊥ ∧ ∃ j, j < k ∧ sel l j = e) ∨ (work l k e = l e ∧ ∀ j, j < k → sel l j ≠ e) := by
  induction k with
  | zero => exact Or.inr ⟨rfl, fun j hj => absurd hj (Nat.not_lt_zero j)⟩
  | succ k ih =>
    by_cases h : e = sel l k
    · exact Or.inl ⟨if_pos h, k, Nat.lt_succ_self k, h.symm⟩
    · have hw : work l (k + 1) e = work l k e := if_neg h
      rcases ih with ⟨h1, j, hj, hs⟩ | ⟨h1, h2⟩
      · exact Or.inl ⟨hw.trans h1, j, Nat.lt_succ_of_lt hj, hs⟩
      · refine Or.inr ⟨hw.trans h1, fun j hj => ?_⟩
        rcases Nat.lt_succ_iff_lt_or_eq.mp hj with hj | rfl
        · exact h2 j hj
        · exact fun hs => h hs.symm

/-- A position no earlier round took holds its own entry. -/
theorem work_of_fresh {l : Row} {k : ℕ} {e : Fin 64} (h : ∀ j, j < k → sel l j ≠ e) : work l k e = l e := by
  rcases work_eq l k e with ⟨-, j, hj, hs⟩ | ⟨h1, -⟩
  · exact absurd hs (h j hj)
  · exact h1

/-- A position an earlier round took holds −∞. -/
theorem work_of_taken {l : Row} {k j : ℕ} (hj : j < k) : work l k (sel l j) = ⊥ := by
  rcases work_eq l k (sel l j) with ⟨h1, -⟩ | ⟨-, h2⟩
  · exact h1
  · exact absurd rfl (h2 j hj)

/-- Fewer than 64 rounds leave some position free. -/
theorem exists_fresh (l : Row) {k : ℕ} (hk : k < 64) : ∃ e : Fin 64, ∀ j, j < k → sel l j ≠ e := by
  by_contra hn
  push Not at hn
  have hsub : (Finset.univ : Finset (Fin 64)) ⊆ (Finset.range k).image (sel l) := fun e _ => by
    obtain ⟨j, hj, hs⟩ := hn e
    exact Finset.mem_image.mpr ⟨j, Finset.mem_range.mpr hj, hs⟩
  have := (Finset.card_le_card hsub).trans Finset.card_image_le
  rw [Finset.card_univ, Fintype.card_fin, Finset.card_range] at this
  omega

/-- With every entry above −∞, a round takes a position no earlier round took. -/
theorem sel_fresh {l : Row} (hb : ∀ e, l e ≠ ⊥) {k : ℕ} (hk : k < 64) : ∀ j, j < k → sel l j ≠ sel l k := by
  intro j hj hs
  obtain ⟨e, he⟩ := exists_fresh l hk
  have h1 := le_pick (work l k) e
  have h2 : work l k (pick (work l k)) = ⊥ := by
    have := work_of_taken (l := l) hj
    rwa [hs] at this
  rw [h2, work_of_fresh he] at h1
  exact hb e (le_bot_iff.mp h1)

/-- A round's entry is the row's own. -/
theorem work_sel {l : Row} (hb : ∀ e, l e ≠ ⊥) {k : ℕ} (hk : k < 64) : work l k (sel l k) = l (sel l k) :=
  work_of_fresh (sel_fresh hb hk)

/-- The first 64 rounds take different positions. -/
theorem sel_inj {l : Row} (hb : ∀ e, l e ≠ ⊥) {j k : ℕ} (hj : j < 64) (hk : k < 64) (h : sel l j = sel l k) : j = k := by
  rcases lt_trichotomy j k with hlt | heq | hgt
  · exact absurd h (sel_fresh hb hk j hlt)
  · exact heq
  · exact absurd h.symm (sel_fresh hb hj k hgt)

/-- A position not taken before round `k` has at most that round's entry. -/
theorem le_sel {l : Row} (hb : ∀ e, l e ≠ ⊥) {k : ℕ} (hk : k < 64) {e : Fin 64} (h : ∀ j, j < k → sel l j ≠ e) :
    l e ≤ l (sel l k) := by
  have := le_pick (work l k) e
  rw [work_of_fresh h] at this
  exact this.trans (work_sel hb hk).le

/-- A position not taken before round `k` and before that round's has a strictly smaller entry. -/
theorem lt_sel {l : Row} (hb : ∀ e, l e ≠ ⊥) {k : ℕ} (hk : k < 64) {e : Fin 64} (h : ∀ j, j < k → sel l j ≠ e)
    (hlt : e < sel l k) : l e < l (sel l k) := by
  have := lt_pick (work l k) e hlt
  rw [work_of_fresh h] at this
  exact this.trans_le (work_sel hb hk).le

/-! ## The stable sort -/

/-- Two relations that agree whenever the right argument comes earlier in the list sort it alike. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Equal position lists give equal sorting maps. -/
theorem sortedFrom_of_positions {n : Nat} (R R' : Fin n → Fin n → Bool) (h : sortPositions n R = sortPositions n R') :
    sortedFrom R = sortedFrom R' := by
  funext k
  unfold sortedFrom
  rw [List.get_of_eq h]
  rfl

/-- One extended real is greater than another, as a Boolean. -/
def gtB (a b : EReal) : Bool := @decide (b < a) (Classical.propDecidable _)

/-- `gtB` says what it should. -/
theorem gtB_iff (a b : EReal) : gtB a b = true ↔ b < a := by by_cases h : b < a <;> simp [gtB, h]

/-- `gtB` false is the reverse order. -/
theorem gtB_false {a b : EReal} (h : ¬ b < a) : gtB a b = false := by
  cases hg : gtB a b
  · rfl
  · exact absurd ((gtB_iff a b).mp hg) h

/-- Greater first, and at equal entries the earlier position first. -/
def earlier (l : Row) (k k' : Fin 64) : Bool :=
  gtB (l k) (l k') || (@decide (l k = l k') (Classical.propDecidable _) && decide (k < k'))

/-- That is a strict total order on the positions. -/
theorem earlier_total (l : Row) : StrictTotalBefore (earlier l) :=
  @StrictTotalBefore.of_key_then_position 64 EReal (fun _ _ => Classical.propDecidable _) gtB l
    (fun a => gtB_false (lt_irrefl a))
    (fun a b c hab hbc => (gtB_iff a c).mpr (((gtB_iff b c).mp hbc).trans ((gtB_iff a b).mp hab)))
    (fun a b => by
      rcases lt_trichotomy a b with h | h | h
      · exact Or.inr (Or.inr ((gtB_iff b a).mpr h))
      · exact Or.inr (Or.inl h)
      · exact Or.inl ((gtB_iff a b).mpr h))

/-- The stable sort by "greater" alone is the sort by that order. -/
theorem sortedFrom_gt (l : Row) :
    sortedFrom (fun k k' : Fin 64 => Ideal.cmpTotal .gt (l k) (l k') == 1#1) = sortedFrom (earlier l) := by
  have hs : sortPositions 64 (fun k k' : Fin 64 => Ideal.cmpTotal .gt (l k) (l k') == 1#1) = sortPositions 64 (earlier l) := by
    refine stableSort_congr_of_pairwise _ _ _ ((List.pairwise_lt_finRange 64).imp fun {a b} hab => ?_)
    have hba : ¬ b < a := not_lt.mpr hab.le
    have h1 : (Ideal.cmpTotal .gt (l b) (l a) == 1#1) = gtB (l b) (l a) := by
      unfold Ideal.cmpTotal Ideal.cmp gtB
      by_cases h : l a < l b
      · simp [h, CmpDirection.ordered]
      · simp [h, CmpDirection.ordered]
    show (Ideal.cmpTotal .gt (l b) (l a) == 1#1) = _
    rw [h1]
    unfold earlier
    simp [hba]
  exact sortedFrom_of_positions _ _ hs

/-- THE ROUNDS ARE THE SORT: the k-th place of the stable sort, greatest first, is the position round `k` takes. -/
theorem sortedFrom_eq_sel {l : Row} (hb : ∀ e, l e ≠ ⊥) (k : Fin 64) :
    sortedFrom (fun k k' : Fin 64 => Ideal.cmpTotal .gt (l k) (l k') == 1#1) k = sel l k.val := by
  rw [sortedFrom_gt]
  have key : ∀ (a : ℕ) (_ : a < 64) (p : Fin 64), (∀ j, j < a → sel l j ≠ p) → earlier l p (sel l a) = false := by
    intro a ha p hp
    unfold earlier
    have h1 : gtB (l p) (l (sel l a)) = false := gtB_false (not_lt.mpr (le_sel hb ha hp))
    have h2 : ¬ (l p = l (sel l a) ∧ p < sel l a) := fun h => absurd h.1 (lt_sel hb ha hp h.2).ne
    rw [not_and] at h2
    by_cases h3 : l p = l (sel l a)
    · simp [h1, h2 h3]
    · simp [h1, h3]
  have hinj : Function.Injective fun i : Fin 64 => sel l i.val := fun i j h => Fin.ext (sel_inj hb i.isLt j.isLt h)
  have hord : ∀ i j : Fin 64, i < j → earlier l (sel l j.val) (sel l i.val) = false := fun i j hij =>
    key i.val i.isLt _ fun a ha h => by
      have := sel_inj hb (ha.trans i.isLt) j.isLt h
      have : i.val < j.val := hij
      omega
  have hdom : ∀ (i p : Fin 64), (∀ j : Fin 64, sel l j.val ≠ p) → earlier l p (sel l i.val) = false := fun i p hp =>
    key i.val i.isLt p fun j hj => hp ⟨j, hj.trans i.isLt⟩
  exact StrictTotalBefore.sortedFrom_eq_of_prefix (n := 64) (k := 64) (B := earlier l) (earlier_total l) (le_refl 64)
    (fun i : Fin 64 => sel l i.val) hinj hord hdom k

/-- After `k` rounds the struck positions are the ones taken, when no entry is infinite below and those not taken are
    finite above: an entry's magnitude is +∞ exactly at a taken position. -/
theorem work_infinite_iff (l : Row) (hb : ∀ e, l e ≠ ⊥) (k : ℕ) (ht : ∀ e, (∀ j, j < k → sel l j ≠ e) → l e ≠ ⊤) (e : Fin 64) :
    max (work l k e) (-(work l k e)) = ⊤ ↔ ∃ j, j < k ∧ sel l j = e := by
  rcases work_eq l k e with ⟨h1, h2⟩ | ⟨h1, h2⟩
  · rw [h1]
    exact ⟨fun _ => h2, fun _ => by simp⟩
  · rw [h1]
    constructor
    · intro h
      rcases max_choice (l e) (-(l e)) with hm | hm
      · exact absurd (hm.symm.trans h) (ht e h2)
      · exact absurd (EReal.neg_eq_top_iff.mp (hm.symm.trans h)) (hb e)
    · rintro ⟨j, hj, hs⟩
      exact absurd hs (h2 j hj)

end Cert.Router

end
-- ==== Proof.Router.Step.lean ====
/- One round of the top-k on a block of rows, read at an index: the maximum along the row, the first greatest position,
   and the block with −∞ put at that position, each in terms of the rows (`Cert.Router.pick`, `Cert.Router.strike`). -/
module

public import proofs.«01_k».proof.Proof.Router.Rounds
public import Idealize.ShloMosaic.Lib.Pipeline.Value
public import Idealize.ShloMosaic.Lib.ValueIdx
public import Idealize.ShloMosaic.Lib.IdealHost

@[expose] public section

noncomputable section

namespace Cert.Router

open Idealize.ShloMosaic Idealize.ShloMosaic.ValueIdx

/-- The all-ones-exponent pattern with the sign set is −∞. -/
theorem ofBits_neg_inf : Ideal.ofBits .f32 0xFF800000#32 = (⊥ : EReal) := by simp [Ideal.ofBits, Ideal.ieee]

/-- The all-ones-exponent pattern without the sign is +∞. -/
theorem ofBits_pos_inf : Ideal.ofBits .f32 0x7F800000#32 = (⊤ : EReal) := by simp [Ideal.ofBits, Ideal.ieee]

/-- Row `r` of a block of rows of 64. -/
def rowOf {n : Nat} (x : FVec Ideal ⟨2, ![n, 64]⟩ .f32) (r : Fin n) : Row := fun e => x (ix2 r e)

/-- Reducing the second of two axes: the index above `r` with coordinate `e`. -/
theorem lift_row {n m : Nat} (h : Shape.Reduces ⟨2, ![n, m]⟩ [1] ⟨1, ![n]⟩) (r : Fin n) (e : Fin m) :
    h.lift (ix1 r) e = ix2 r e := by
  funext c
  match c with
  | ⟨0, _⟩ => exact Fin.ext ((h.lift_val (ix1 r) e _).trans (by simp [Shape.Reduces.liftVal]))
  | ⟨1, _⟩ => exact Fin.ext ((h.lift_val (ix1 r) e _).trans (by simp [Shape.Reduces.liftVal]))

/-- Dropping the second of two coordinates. -/
theorem drop_row {n m : Nat} (h : Shape.Reduces ⟨2, ![n, m]⟩ [1] ⟨1, ![n]⟩) (r : Fin n) (e : Fin m) :
    h.drop (ix2 r e) = ix1 r :=
  (congrArg h.drop (lift_row h r e)).symm.trans (h.drop_lift (ix1 r) e)

/-- An index above `r` is `r` with some second coordinate. -/
theorem eq_of_drop {n m : Nat} (h : Shape.Reduces ⟨2, ![n, m]⟩ [1] ⟨1, ![n]⟩) (r : Fin n) (i : (⟨2, ![n, m]⟩ : Shape).Idx)
    (hd : h.drop i = ix1 r) : ∃ e : Fin m, i = ix2 r e :=
  ⟨i 1, ((h.lift_drop i).symm.trans (congrArg (fun j => h.lift j (i 1)) hd)).trans (lift_row h r (i 1))⟩

/-- The fold of `max` from −∞ over a row is the entry at the picked position. -/
theorem fold_max_row (l : Row) : (Finset.univ : Finset (Fin 64)).fold max (⊥ : EReal) l = l (pick l) := by
  apply le_antisymm
  · exact Finset.fold_max_le _ |>.mpr ⟨bot_le, fun e _ => le_pick l e⟩
  · exact Finset.le_fold_max _ |>.mpr (Or.inr ⟨pick l, Finset.mem_univ _, le_rfl⟩)

/-- A column view of a per-row value reads that row's value. -/
theorem col_apply {α : Type} {n : Nat} (x : (⟨1, ![n]⟩ : Shape).Idx → α) (h : (⟨1, ![n]⟩ : Shape).ShapeCasts ⟨2, ![n, 1]⟩)
    (r : Fin n) (z : Fin 1) : shapeCast ⟨2, ![n, 1]⟩ x h (ix2 r z) = x (ix1 r) := by
  refine shapeCast_apply x h _ _ ?_
  rw [Shape.rowMajor_val_two, Shape.rowMajor_val_one]
  show r.val = r.val * 1 + z.val
  omega

/-- A column broadcast along the rows reads the column. -/
theorem rows_apply {α : Type} {n m : Nat} (x : (⟨2, ![n, 1]⟩ : Shape).Idx → α)
    (h : (⟨2, ![n, 1]⟩ : Shape).Broadcasts ⟨2, ![n, m]⟩) (hn : n ≠ 1) (r : Fin n) (e : Fin m) :
    broadcastTo ⟨2, ![n, m]⟩ x h (ix2 r e) = x (ix2 r 0) := by
  refine broadcastTo_apply x h _ _ fun a => ?_
  match a with
  | ⟨0, _⟩ => exact (if_neg hn).symm
  | ⟨1, _⟩ => rfl

/-- The round's maximum, one per row. -/
theorem maxcol_apply {n : Nat} (x : FVec Ideal ⟨2, ![n, 64]⟩ .f32) (h : Shape.Reduces ⟨2, ![n, 64]⟩ [1] ⟨1, ![n]⟩)
    (hφ : FKind.Formats .f32) (hacc : (0xFF800000#32 : BitVec FTy.f32.bits) = FKind.maximumf.neutral .f32 hφ)
    (hc : (⟨1, ![n]⟩ : Shape).ShapeCasts ⟨2, ![n, 1]⟩) (r : Fin n) (z : Fin 1) :
    shapeCast ⟨2, ![n, 1]⟩ (multiReduction .maximumf [1] ⟨1, ![n]⟩ x 0xFF800000#32 h hφ hacc) hc (ix2 r z)
      = rowOf x r (pick (rowOf x r)) := by
  rw [col_apply, Ideal.multiReduction_maximumf_single]
  refine Eq.trans ?_ (fold_max_row (rowOf x r))
  refine Eq.trans (congrArg (fun b => (Finset.univ : Finset (Fin 64)).fold max b (x ∘ h.lift (ix1 r))) ofBits_neg_inf) ?_
  exact congrArg (fun f => (Finset.univ : Finset (Fin 64)).fold max (⊥ : EReal) f) (funext fun e => congrArg x (lift_row h r e))

/-- A row's sum, as a column. -/
theorem sumcol_apply {n m : Nat} (x : FVec Ideal ⟨2, ![n, m]⟩ .f32) (h : Shape.Reduces ⟨2, ![n, m]⟩ [1] ⟨1, ![n]⟩)
    (hφ : FKind.Formats .f32) (hacc : (0x00000000#32 : BitVec FTy.f32.bits) = FKind.add.neutral .f32 hφ)
    (hc : (⟨1, ![n]⟩ : Shape).ShapeCasts ⟨2, ![n, 1]⟩) (r : Fin n) (z : Fin 1) :
    shapeCast ⟨2, ![n, 1]⟩ (multiReduction .add [1] ⟨1, ![n]⟩ x 0x00000000#32 h hφ hacc) hc (ix2 r z) = ∑ j : Fin m, x (ix2 r j) := by
  rw [col_apply, Ideal.multiReduction_add_single]
  exact Finset.sum_congr rfl fun j _ => congrArg x (lift_row h r j)

/-- The least member of a set of position numbers, when its members are the greatest positions of a row. -/
theorem min_getD_eq_pick (l : Row) (S : Finset ℕ) (mem : ∀ v, v ∈ S ↔ ∃ e : Fin 64, e.val = v ∧ ∀ e', l e' ≤ l e) :
    Option.getD (α := ℕ) S.min 0 = (pick l).val := by
  have hm : S.min = ((pick l).val : WithTop ℕ) := by
    apply le_antisymm
    · exact Finset.min_le ((mem _).mpr ⟨pick l, rfl, le_pick _⟩)
    · refine Finset.le_min fun v hv => ?_
      obtain ⟨e, rfl, he⟩ := (mem v).mp hv
      refine WithTop.coe_le_coe.mpr ?_
      by_contra hlt
      exact absurd (lt_pick l e (Fin.lt_def.mpr (not_le.mp hlt))) (not_lt.mpr (he _))
  exact congrArg (fun o : WithTop ℕ => Option.getD (α := ℕ) o 0) hm

/-- The first greatest position of a row, as the index reduction answers it. -/
theorem argmax_apply {n : Nat} (x : FVec Ideal ⟨2, ![n, 64]⟩ .f32) (h : Shape.Reduces ⟨2, ![n, 64]⟩ [1] ⟨1, ![n]⟩) (r : Fin n) :
    Ideal.reduceIndex .argMax 1 h x (ix1 r) = BitVec.ofNat 32 (pick (rowOf x r)).val := by
  classical
  refine congrArg (BitVec.ofNat 32) (min_getD_eq_pick (rowOf x r) _ fun v => ?_)
  simp only [Finset.mem_image, Finset.mem_filter, Finset.mem_univ, true_and, if_true, not_lt]
  constructor
  · rintro ⟨i, ⟨hd, hi⟩, rfl⟩
    obtain ⟨e, rfl⟩ := eq_of_drop h r i hd
    exact ⟨e, rfl, fun e' => hi (ix2 r e') (drop_row h r e')⟩
  · rintro ⟨e, rfl, he⟩
    refine ⟨ix2 r e, ⟨drop_row h r e, fun i' hd => ?_⟩, rfl⟩
    obtain ⟨e', rfl⟩ := eq_of_drop h r i' hd
    exact he e'

/-- The same as a column. -/
theorem argcol_apply {n : Nat} (x : FVec Ideal ⟨2, ![n, 64]⟩ .f32) (h : Shape.Reduces ⟨2, ![n, 64]⟩ [1] ⟨1, ![n]⟩)
    (hc : (⟨1, ![n]⟩ : Shape).ShapeCasts ⟨2, ![n, 1]⟩) (r : Fin n) (z : Fin 1) :
    shapeCast ⟨2, ![n, 1]⟩ (reduceIndex .argMax 1 ⟨1, ![n]⟩ x h) hc (ix2 r z) = BitVec.ofNat 32 (pick (rowOf x r)).val := by
  rw [col_apply]
  exact argmax_apply x h r

/-- Two expert numbers are equal as words when they are equal. -/
theorem word_inj (a b : Fin 64) : BitVec.ofNat 32 a.val = BitVec.ofNat 32 b.val ↔ a = b := by
  constructor
  · intro h
    have := congrArg BitVec.toNat h
    simp only [BitVec.toNat_ofNat] at this
    have ha := a.isLt
    have hb := b.isLt
    exact Fin.ext (by omega)
  · rintro rfl; rfl

/-- The block after a round: −∞ where the position is the picked one. -/
theorem strike_apply {n : Nat} (x : FVec Ideal ⟨2, ![n, 64]⟩ .f32) (a : IVec ⟨2, ![n, 1]⟩ 32) (hn : n ≠ 1)
    (hi : Shape.Iotas ⟨2, ![n, 64]⟩ .tc 32 [1]) (hb : (⟨2, ![n, 1]⟩ : Shape).Broadcasts ⟨2, ![n, 64]⟩)
    (r : Fin n) (ha : a (ix2 r 0) = BitVec.ofNat 32 (pick (rowOf x r)).val) :
    rowOf (select (cmpi .eq (iota .tc ⟨2, ![n, 64]⟩ 32 [1] hi) (broadcastTo ⟨2, ![n, 64]⟩ a hb))
      (broadcast ⟨2, ![n, 64]⟩ (Scalar.ofBits .f32 0xFF800000#32)) x) r = strike (rowOf x r) := by
  funext e
  show Scalar.select (IntOp.cmpi .eq (iota .tc ⟨2, ![n, 64]⟩ 32 [1] hi (ix2 r e)) (broadcastTo ⟨2, ![n, 64]⟩ a hb (ix2 r e)))
    (Ideal.ofBits .f32 0xFF800000#32) (x (ix2 r e)) = strike (rowOf x r) e
  rw [rows_apply a hb hn, ha, iota_single_apply, ofBits_neg_inf]
  show Scalar.select (BitVec.ofBool (BitVec.ofNat 32 e.val == BitVec.ofNat 32 (pick (rowOf x r)).val)) _ _ = if e = pick (rowOf x r) then ⊥ else rowOf x r e
  by_cases he : e = pick (rowOf x r)
  · rw [if_pos he, ← he, beq_self_eq_true]
    rfl
  · rw [if_neg he, beq_eq_false_iff_ne.mpr (fun hw => he ((word_inj _ _).mp hw))]
    rfl

end Cert.Router
-- ==== Proof.Router.Block.lean ====
/- What one block computes, read at an index: the logits of a row, the rows after each round, the block of expert
   numbers, the block of normalised probabilities, the block's expert counts, and the load statistic of the counts. -/
module

public import proofs.«01_k».proof.Proof.Router.Step
public import proofs.«01_k».proof.Proof.Gen.KernelIdeal.Skeleton
public import Idealize.ShloMosaic.Lib.Pointwise.Contract
public import Idealize.ShloMosaic.Lib.Pointwise.Select

@[expose] public section

noncomputable section

namespace Cert.Router

open Idealize.ShloMosaic hiding ix0 ix1 ix2 ix3 ix4 ix5
open Idealize.ShloMosaic.ValueIdx Cert.KernelIdeal Cert.KernelIdeal.Gen

variable (x : Vec Ideal S1024x4096 .f32) (w : Vec Ideal S64x4096 .f32)

/-- The logits of row `r` of a block of 1024 rows against the gate's 64 rows. -/
def blockRow (r : Fin 1024) : Row := fun e => ∑ k : Fin 4096, x (ix2 r k) * w (ix2 e k)

/-- The block of logits the kernel starts from holds them. -/
theorem logits_row (r : Fin 1024) : rowOf (k0_pay3 x w) r = blockRow x w r := by
  funext e
  show Ideal.matmul dot_S1024x4096_S64x4096_S1024x64_1_1_0_0_n_n (shapeCast S1024x4096 x shapeCasts_S1024x4096_S1024x4096) w
    (constant (F := Ideal) S1024x64 .f32 0x00000000#32) (ix2 r e) = _
  rw [Ideal.matmul_apply₁_of _ (a := 1) rfl (K := 4096) rfl _ _ _ _ (fun k => ix2 r k) (fun k => ix2 e k) (fun k => ?_) (fun k => ?_)]
  · show Ideal.ofBits .f32 0x00000000#32 + _ = _
    rw [Ideal.ofBits_zero_f32, zero_add, shapeCast_self]
    rfl
  · funext a; match a with | ⟨0, _⟩ => rfl | ⟨1, _⟩ => rfl
  · funext a; match a with | ⟨0, _⟩ => rfl | ⟨1, _⟩ => rfl

/-- One more round on rows that `k` rounds have been made on. -/
theorem next_row (l : Row) (k : ℕ) (y : FVec Ideal S1024x64 .f32) (a : IVec S1024x1 32) (r : Fin 1024) (hy : rowOf y r = work l k)
    (ha : a (ix2 r 0) = BitVec.ofNat 32 (pick (rowOf y r)).val) :
    rowOf (select (cmpi .eq (iota .tc S1024x64 32 [1] iota_S1024x64_d1_w32) (broadcastTo S1024x64 a broadcasts_S1024x1_S1024x64))
      (broadcast S1024x64 (Scalar.ofBits .f32 0xFF800000#32)) y) r = work l (k + 1) := by
  refine (strike_apply y a (by decide) _ _ r ha).trans ?_
  rw [hy]
  rfl

/-- The positions of the experts in a row, as words. -/
abbrev experts : IVec S1024x64 32 := iota .tc S1024x64 32 [1] iota_S1024x64_d1_w32

/-- The rows after the first round. -/
theorem row1 (r : Fin 1024) : rowOf (k0_pay6 x w) r = work (blockRow x w r) 1 :=
  next_row _ 0 (k0_pay3 x w) (k0_pay5 x w) r (logits_row x w r) (argcol_apply _ _ _ r 0)

/-- The rows after the second round. -/
theorem row2 (r : Fin 1024) : rowOf (k0_pay9 x w) r = work (blockRow x w r) 2 :=
  next_row _ 1 (k0_pay6 x w) (k0_pay8 x w) r (row1 x w r) (argcol_apply _ _ _ r 0)

/-- The rows after the third round. -/
theorem row3 (r : Fin 1024) : rowOf (k0_pay12 x w) r = work (blockRow x w r) 3 :=
  next_row _ 2 (k0_pay9 x w) (k0_pay11 x w) r (row2 x w r) (argcol_apply _ _ _ r 0)

/-- The rows after the fourth round. -/
theorem row4 (r : Fin 1024) : rowOf (k0_pay15 x w) r = work (blockRow x w r) 4 :=
  next_row _ 3 (k0_pay12 x w) (k0_pay14 x w) r (row3 x w r) (argcol_apply _ _ _ r 0)

/-- The block after five rounds. -/
abbrev blk5 : FVec Ideal S1024x64 .f32 := k0_pay20 (k0_pay15 x w) (k0_pay18 x w) k0_pay19

/-- The block after six rounds. -/
abbrev blk6 : FVec Ideal S1024x64 .f32 := k0_pay22 experts (k0_pay15 x w) (k0_pay18 x w) k0_pay19

/-- The block after seven rounds. -/
abbrev blk7 : FVec Ideal S1024x64 .f32 := k0_pay24 experts (k0_pay15 x w) (k0_pay18 x w) k0_pay19

/-- The rows after the fifth round. -/
theorem row5 (r : Fin 1024) : rowOf (blk5 x w) r = work (blockRow x w r) 5 :=
  next_row _ 4 (k0_pay15 x w) (k0_pay17 x w) r (row4 x w r) (argcol_apply _ _ _ r 0)

/-- The rows after the sixth round. -/
theorem row6 (r : Fin 1024) : rowOf (blk6 x w) r = work (blockRow x w r) 6 :=
  next_row _ 5 (blk5 x w) (k0_pay21 (k0_pay15 x w) (k0_pay18 x w) k0_pay19) r (row5 x w r) (argcol_apply _ _ _ r 0)

/-- The rows after the seventh round. -/
theorem row7 (r : Fin 1024) : rowOf (blk7 x w) r = work (blockRow x w r) 7 :=
  next_row _ 6 (blk6 x w) (k0_pay23 experts (k0_pay15 x w) (k0_pay18 x w) k0_pay19) r (row6 x w r) (argcol_apply _ _ _ r 0)

/-- The block after all eight rounds. -/
def blk8 : FVec Ideal S1024x64 .f32 :=
  select (cmpi .eq experts (broadcastTo S1024x64 (k0_pay25 experts (k0_pay15 x w) (k0_pay18 x w) k0_pay19) broadcasts_S1024x1_S1024x64))
    (broadcast S1024x64 (Scalar.ofBits .f32 0xFF800000#32)) (blk7 x w)

/-- The rows after the eighth round. -/
theorem row8 (r : Fin 1024) : rowOf (blk8 x w) r = work (blockRow x w r) 8 :=
  next_row _ 7 (blk7 x w) (k0_pay25 experts (k0_pay15 x w) (k0_pay18 x w) k0_pay19) r (row7 x w r) (argcol_apply _ _ _ r 0)

/-- Eight columns side by side: column `k` of the result is the `k`-th. -/
theorem cat8_apply {α : Type} (c0 c1 c2 c3 c4 c5 c6 c7 : S1024x1.Idx → α)
    (h : Shape.Concatenates ([⟨S1024x1, c0⟩, ⟨S1024x1, c1⟩, ⟨S1024x1, c2⟩, ⟨S1024x1, c3⟩, ⟨S1024x1, c4⟩, ⟨S1024x1, c5⟩, ⟨S1024x1, c6⟩,
      ⟨S1024x1, c7⟩] |>.map (fun p : (s : Shape) × (s.Idx → α) => p.1)) S1024x8 1) (f : Fin 8 → α) (r : Fin 1024)
    (h0 : c0 (ix2 r 0) = f 0) (h1 : c1 (ix2 r 0) = f 1) (h2 : c2 (ix2 r 0) = f 2) (h3 : c3 (ix2 r 0) = f 3)
    (h4 : c4 (ix2 r 0) = f 4) (h5 : c5 (ix2 r 0) = f 5) (h6 : c6 (ix2 r 0) = f 6) (h7 : c7 (ix2 r 0) = f 7) (k : Fin 8) :
    concatenate S1024x8 1 [⟨S1024x1, c0⟩, ⟨S1024x1, c1⟩, ⟨S1024x1, c2⟩, ⟨S1024x1, c3⟩, ⟨S1024x1, c4⟩, ⟨S1024x1, c5⟩, ⟨S1024x1, c6⟩,
      ⟨S1024x1, c7⟩] h (ix2 r k) = f k := by
  have piece : ∀ (n : Nat) (hn : n < 8) (c : S1024x1.Idx → α),
      [(⟨S1024x1, c0⟩ : (s : Shape) × (s.Idx → α)), ⟨S1024x1, c1⟩, ⟨S1024x1, c2⟩, ⟨S1024x1, c3⟩, ⟨S1024x1, c4⟩, ⟨S1024x1, c5⟩,
        ⟨S1024x1, c6⟩, ⟨S1024x1, c7⟩][n]'hn = ⟨S1024x1, c⟩ → (k.val = n) →
      ((([(⟨S1024x1, c0⟩ : (s : Shape) × (s.Idx → α)), ⟨S1024x1, c1⟩, ⟨S1024x1, c2⟩, ⟨S1024x1, c3⟩, ⟨S1024x1, c4⟩, ⟨S1024x1, c5⟩,
        ⟨S1024x1, c6⟩, ⟨S1024x1, c7⟩].take n).map (·.1)).map
          fun s => if h : s.rank = S1024x8.rank then s.size ((1 : Fin S1024x8.rank).cast h.symm) else 0).sum = n →
      concatenate S1024x8 1 [⟨S1024x1, c0⟩, ⟨S1024x1, c1⟩, ⟨S1024x1, c2⟩, ⟨S1024x1, c3⟩, ⟨S1024x1, c4⟩, ⟨S1024x1, c5⟩, ⟨S1024x1, c6⟩,
        ⟨S1024x1, c7⟩] h (ix2 r k) = c (ix2 r 0) := by
    intro n hn c hc hk hs
    refine concatenate_apply_piece 1 _ h (ix2 r k) n hn S1024x1 c hc rfl n hs (ix2 r 0) (fun b hb => ?_) ?_
    · match b with
      | ⟨0, _⟩ => rfl
      | ⟨1, _⟩ => exact absurd rfl hb
    · exact hk.symm
  match k with
  | ⟨0, _⟩ => exact (piece 0 (by decide) c0 rfl rfl rfl).trans h0
  | ⟨1, _⟩ => exact (piece 1 (by decide) c1 rfl rfl rfl).trans h1
  | ⟨2, _⟩ => exact (piece 2 (by decide) c2 rfl rfl rfl).trans h2
  | ⟨3, _⟩ => exact (piece 3 (by decide) c3 rfl rfl rfl).trans h3
  | ⟨4, _⟩ => exact (piece 4 (by decide) c4 rfl rfl rfl).trans h4
  | ⟨5, _⟩ => exact (piece 5 (by decide) c5 rfl rfl rfl).trans h5
  | ⟨6, _⟩ => exact (piece 6 (by decide) c6 rfl rfl rfl).trans h6
  | ⟨7, _⟩ => exact (piece 7 (by decide) c7 rfl rfl rfl).trans h7

/-- The block of expert numbers: entry `(r, k)` is the position round `k` takes in row `r`. -/
theorem idx_block (r : Fin 1024) (k : Fin 8) :
    k0_pay26 experts (k0_pay5 x w) (k0_pay8 x w) (k0_pay11 x w) (k0_pay14 x w) (k0_pay15 x w) (k0_pay17 x w) (k0_pay18 x w) k0_pay19
      (ix2 r k) = BitVec.ofNat 32 (sel (blockRow x w r) k.val).val := by
  have col : ∀ (n : ℕ) (y : FVec Ideal S1024x64 .f32) (a : IVec S1024x1 32), rowOf y r = work (blockRow x w r) n →
      a (ix2 r 0) = BitVec.ofNat 32 (pick (rowOf y r)).val → a (ix2 r 0) = BitVec.ofNat 32 (sel (blockRow x w r) n).val := by
    intro n y a hy ha
    rw [ha, hy]
    rfl
  refine cat8_apply _ _ _ _ _ _ _ _
      concatenates_S1024x1_S1024x1_S1024x1_S1024x1_S1024x1_S1024x1_S1024x1_S1024x1_S1024x8_d1 (fun k => BitVec.ofNat 32 (sel (blockRow x w r) k.val).val) r ?_ ?_ ?_ ?_ ?_ ?_ ?_ ?_ k
  · exact col 0 _ _ (logits_row x w r) (argcol_apply _ _ _ r 0)
  · exact col 1 _ _ (row1 x w r) (argcol_apply _ _ _ r 0)
  · exact col 2 _ _ (row2 x w r) (argcol_apply _ _ _ r 0)
  · exact col 3 _ _ (row3 x w r) (argcol_apply _ _ _ r 0)
  · exact col 4 _ _ (row4 x w r) (argcol_apply _ _ _ r 0)
  · exact col 5 _ _ (row5 x w r) (argcol_apply _ _ _ r 0)
  · exact col 6 _ _ (row6 x w r) (argcol_apply _ _ _ r 0)
  · exact col 7 _ _ (row7 x w r) (argcol_apply _ _ _ r 0)

/-- The maximum of round `k` is the row's own entry at the position taken. -/
theorem max_of_round (l : Row) (hb : ∀ e, l e ≠ ⊥) (n : ℕ) (hn : n < 64) (y : FVec Ideal S1024x64 .f32) (a : FVec Ideal S1024x1 .f32)
    (r : Fin 1024) (hy : rowOf y r = work l n) (ha : a (ix2 r 0) = rowOf y r (pick (rowOf y r))) : a (ix2 r 0) = l (sel l n) := by
  rw [ha, hy]
  exact work_sel hb hn

/-- The block of probabilities: each taken logit's logistic over the row's sum of the eight. -/
theorem prob_block (r : Fin 1024) (hb : ∀ e, blockRow x w r e ≠ ⊥) (k : Fin 8) :
    k0_pay27 experts (k0_pay4 x w) (k0_pay7 x w) (k0_pay10 x w) (k0_pay13 x w) (k0_pay15 x w) (k0_pay16 x w) (k0_pay18 x w) k0_pay19
      (ix2 r k) = Ideal.div (Ideal.logistic (blockRow x w r (sel (blockRow x w r) k.val)))
        (∑ j : Fin 8, Ideal.logistic (blockRow x w r (sel (blockRow x w r) j.val))) := by
  set l := blockRow x w r with hl
  set cat : FVec Ideal S1024x8 .f32 := concatenate S1024x8 1 [⟨S1024x1, k0_pay4 x w⟩, ⟨S1024x1, k0_pay7 x w⟩, ⟨S1024x1, k0_pay10 x w⟩,
    ⟨S1024x1, k0_pay13 x w⟩, ⟨S1024x1, k0_pay16 x w⟩,
    ⟨S1024x1, shapeCast S1024x1 (multiReduction .maximumf [1] S1024 (blk5 x w) 0xFF800000#32 reduces_S1024x64_S1024 (.inl rfl) rfl) shapeCasts_S1024_S1024x1⟩,
    ⟨S1024x1, shapeCast S1024x1 (multiReduction .maximumf [1] S1024 (blk6 x w) 0xFF800000#32 reduces_S1024x64_S1024 (.inl rfl) rfl) shapeCasts_S1024_S1024x1⟩,
    ⟨S1024x1, shapeCast S1024x1 (multiReduction .maximumf [1] S1024 (blk7 x w) 0xFF800000#32 reduces_S1024x64_S1024 (.inl rfl) rfl) shapeCasts_S1024_S1024x1⟩]
    concatenates_S1024x1_S1024x1_S1024x1_S1024x1_S1024x1_S1024x1_S1024x1_S1024x1_S1024x8_d1 with hcat
  have hc : ∀ j : Fin 8, cat (ix2 r j) = l (sel l j.val) := by
    intro j
    refine cat8_apply _ _ _ _ _ _ _ _
      concatenates_S1024x1_S1024x1_S1024x1_S1024x1_S1024x1_S1024x1_S1024x1_S1024x1_S1024x8_d1 (fun k => l (sel l k.val)) r ?_ ?_ ?_ ?_ ?_ ?_ ?_ ?_ j
    · exact max_of_round l hb 0 (by decide) _ _ r (logits_row x w r) (maxcol_apply _ _ _ _ _ r 0)
    · exact max_of_round l hb 1 (by decide) _ _ r (row1 x w r) (maxcol_apply _ _ _ _ _ r 0)
    · exact max_of_round l hb 2 (by decide) _ _ r (row2 x w r) (maxcol_apply _ _ _ _ _ r 0)
    · exact max_of_round l hb 3 (by decide) _ _ r (row3 x w r) (maxcol_apply _ _ _ _ _ r 0)
    · exact max_of_round l hb 4 (by decide) _ _ r (row4 x w r) (maxcol_apply _ _ _ _ _ r 0)
    · exact max_of_round l hb 5 (by decide) _ _ r (row5 x w r) (maxcol_apply _ _ _ _ _ r 0)
    · exact max_of_round l hb 6 (by decide) _ _ r (row6 x w r) (maxcol_apply _ _ _ _ _ r 0)
    · exact max_of_round l hb 7 (by decide) _ _ r (row7 x w r) (maxcol_apply _ _ _ _ _ r 0)
  show Ideal.div (Ideal.logistic (cat (ix2 r k))) (broadcastTo S1024x8 (shapeCast S1024x1
    (multiReduction .add [1] S1024 (logistic cat) 0x00000000#32 reduces_S1024x8_S1024 (.inl rfl) rfl) shapeCasts_S1024_S1024x1)
      broadcasts_S1024x1_S1024x8 (ix2 r k)) = _
  rw [rows_apply _ _ (by decide), hc k]
  refine congrArg (Ideal.div _) ((sumcol_apply (logistic cat) _ _ _ _ r 0).trans (Finset.sum_congr rfl fun j _ => ?_))
  exact congrArg Ideal.logistic (hc j)

end Cert.Router

end
-- ==== Proof.Router.Counts.lean ====
/- What one block adds to the expert counts, and the load statistic computed from the counts. -/
module

public import proofs.«01_k».proof.Proof.Router.Block

@[expose] public section

noncomputable section

namespace Cert.Router

open Idealize.ShloMosaic hiding ix0 ix1 ix2 ix3 ix4 ix5
open Idealize.ShloMosaic.ValueIdx Cert.KernelIdeal Cert.KernelIdeal.Gen

open Classical in
/-- One where one of the first eight rounds takes the position, zero elsewhere. -/
def taken (l : Row) (e : Fin 64) : EReal := if ∃ j, j < 8 ∧ sel l j = e then 1 else 0

/-- Any decided form of the same condition gives the same number. -/
theorem taken_eq (l : Row) (e : Fin 64) (p : Prop) [Decidable p] (h : p ↔ ∃ j, j < 8 ∧ sel l j = e) :
    (if p then (1 : EReal) else 0) = taken l e := by
  unfold taken
  by_cases hp : p
  · rw [if_pos hp, if_pos (h.mp hp)]
  · rw [if_neg hp, if_neg (fun hq => hp (h.mpr hq))]

/-- The bit of a proposition, widened and converted, is one or zero. -/
theorem bit_value (p : Prop) [Decidable p] :
    (FloatOps.sitofp (F := Ideal) .f32 ((BitVec.ofBool (decide p)).setWidth 32) : EReal) = if p then 1 else 0 := by
  show ((((BitVec.ofBool (decide p)).setWidth 32).toInt : ℝ) : EReal) = _
  by_cases h : p
  · rw [if_pos h, decide_eq_true h, show ((BitVec.ofBool true).setWidth 32).toInt = 1 by decide, Int.cast_one, EReal.coe_one]
  · rw [if_neg h, decide_eq_false h, show ((BitVec.ofBool false).setWidth 32).toInt = 0 by decide, Int.cast_zero, EReal.coe_zero]

/-- What a block adds to the count of expert `e`: the mask weights of the rows that take it. -/
theorem count_block (x : Vec Ideal S1024x4096 .f32) (w : Vec Ideal S64x4096 .f32) (m : Vec Ideal S1x1x1024 .f32)
    (hb : ∀ r e, blockRow x w r e ≠ ⊥)
    (ht : ∀ r e, (∀ j, j < 8 → sel (blockRow x w r) j ≠ e) → blockRow x w r e ≠ ⊤) (e : Fin 64) :
    k0_pay28 experts (k0_pay15 x w) (k0_pay18 x w) k0_pay19 m (ix2 0 e)
      = ∑ r : Fin 1024, m (ix3 0 0 r) * taken (blockRow x w r) e := by
  show Ideal.matmul dot_S1x1024_S1024x64_S1x64_1_0_0_1_n_n (shapeCast S1x1024 m shapeCasts_S1x1x1024_S1x1024)
    (sitofp (F := Ideal) .f32 (extui 32 (cmpf .oeq (absf (blk8 x w)) (broadcast S1024x64 (Scalar.ofBits (F := Ideal) .f32 0x7F800000#32))) natLt_1_32))
    (constant (F := Ideal) S1x64 .f32 0x00000000#32) (ix2 0 e) = _
  rw [Ideal.matmul_apply₁_of _ (a := 1) rfl (K := 1024) rfl _ _ _ _ (fun r => ix2 0 r) (fun r => ix2 r e) (fun k => ?_) (fun k => ?_)]
  · show Ideal.ofBits .f32 0x00000000#32 + _ = _
    rw [Ideal.ofBits_zero_f32, zero_add]
    refine Finset.sum_congr rfl fun r _ => ?_
    congr 1
    · refine shapeCast_apply m _ _ _ ?_
      rw [Shape.rowMajor_val_two, Shape.rowMajor_val_three]
      rfl
    · show FloatOps.sitofp (F := Ideal) .f32 ((Ideal.cmp .oeq (max (rowOf (blk8 x w) r e) (-(rowOf (blk8 x w) r e)))
        (Ideal.ofBits .f32 0x7F800000#32)).setWidth 32) = taken (blockRow x w r) e
      rw [row8, ofBits_pos_inf, Ideal.cmp_oeq, bit_value]
      exact taken_eq _ _ _ (work_infinite_iff _ (hb r) 8 (ht r) e)
  · funext a; match a with | ⟨0, _⟩ => rfl | ⟨1, _⟩ => rfl
  · funext a; match a with | ⟨0, _⟩ => rfl | ⟨1, _⟩ => rfl

/-- The load statistic of 64 counts: how far the greatest exceeds the mean, relative to the mean. -/
def loadStat (c : Row) : EReal :=
  Ideal.div ((Finset.univ : Finset (Fin 64)).fold max (⊥ : EReal) c - Ideal.div (∑ e, c e) (Ideal.ofBits .f32 0x42800000#32))
    (Ideal.div (∑ e, c e) (Ideal.ofBits .f32 0x42800000#32) + Ideal.ofBits .f32 0x3727C5AC#32)

/-- The indices of a 1 × 1 × 64 array are the numbers below 64. -/
def lineEquiv : Fin 64 ≃ S1x1x64.Idx where
  toFun e := ix3 0 0 e
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl

/-- Every index of the line reduces to the one result index. -/
theorem line_filter (h : S1x1x64.Reduces [1, 2] S1) (j : S1.Idx) :
    (Finset.univ.filter fun i : S1x1x64.Idx => h.drop i = j) = Finset.univ.map lineEquiv.toEmbedding := by
  rw [Finset.map_univ_equiv]
  refine Finset.filter_true_of_mem fun i _ => ?_
  funext a
  match a with
  | ⟨0, _⟩ => exact Subsingleton.elim (α := Fin 1) _ _

/-- A 1 × 64 row viewed as a line reads the row. -/
theorem line_apply (c : Vec Ideal S1x64 .f32) (e : Fin 64) :
    shapeCast S1x1x64 (shapeCast S1x64 c shapeCasts_S1x64_S1x64) shapeCasts_S1x64_S1x1x64 (ix3 0 0 e) = c (ix2 0 e) := by
  rw [shapeCast_self]
  refine shapeCast_apply c _ _ _ ?_
  rw [Shape.rowMajor_val_two, Shape.rowMajor_val_three]
  rfl

/-- The line's maximum. -/
theorem line_max (y : FVec Ideal S1x1x64 .f32) (j : S1.Idx) :
    multiReduction .maximumf [1, 2] S1 y 0xFF800000#32 reduces_S1x1x64_S1 (.inl rfl) rfl j
      = (Finset.univ : Finset (Fin 64)).fold max (⊥ : EReal) fun e => y (ix3 0 0 e) := by
  refine (multiReduction_maximumf_eq_fold y _ _ _ _ j).trans ?_
  rw [line_filter, Finset.fold_map]
  exact congrArg (fun b => (Finset.univ : Finset (Fin 64)).fold max b fun e => y (ix3 0 0 e)) ofBits_neg_inf

/-- The line's sum. -/
theorem line_sum (y : FVec Ideal S1x1x64 .f32) (j : S1.Idx) :
    multiReduction .add [1, 2] S1 y 0x00000000#32 reduces_S1x1x64_S1 (.inl rfl) rfl j = ∑ e : Fin 64, y (ix3 0 0 e) := by
  show ∑ i ∈ (Finset.univ.filter fun i : S1x1x64.Idx => reduces_S1x1x64_S1.drop i = j), y i = _
  rw [line_filter, Finset.sum_map]
  rfl

/-- The kernel's last computation is the load statistic of the counts. -/
theorem stat_block (c : Vec Ideal S1x64 .f32) (i : S1x1.Idx) : k0_pay2 c i = loadStat fun e => c (ix2 0 e) := by
  set y : FVec Ideal S1x1x64 .f32 := shapeCast S1x1x64 (shapeCast S1x64 c shapeCasts_S1x64_S1x64) shapeCasts_S1x64_S1x1x64 with hy
  have hrow : (fun e => y (ix3 0 0 e)) = fun e => c (ix2 0 e) := funext fun e => line_apply c e
  have hm : ∀ j, shapeCast S1x1x1 (multiReduction .maximumf [1, 2] S1 y 0xFF800000#32 reduces_S1x1x64_S1 (.inl rfl) rfl) shapeCasts_S1_S1x1x1 j
      = (Finset.univ : Finset (Fin 64)).fold max (⊥ : EReal) fun e => c (ix2 0 e) :=
    fun j => (line_max y _).trans (congrArg (fun f => (Finset.univ : Finset (Fin 64)).fold max (⊥ : EReal) f) hrow)
  have hs : ∀ j, shapeCast S1x1x1 (multiReduction .add [1, 2] S1 y 0x00000000#32 reduces_S1x1x64_S1 (.inl rfl) rfl) shapeCasts_S1_S1x1x1 j
      = ∑ e : Fin 64, c (ix2 0 e) :=
    fun j => (line_sum y _).trans (congrArg (fun f : Fin 64 → EReal => ∑ e, f e) hrow)
  unfold loadStat
  rw [← hm fun a => ⟨0, by revert a; decide⟩, ← hs fun a => ⟨0, by revert a; decide⟩]
  rfl

end Cert.Router

end
-- ==== Proof.Router.Points.lean ====
/- What each grid point's run leaves in the four output blocks, as the block computations of the input blocks: the first
   point starts the counts, every later point adds to what the point before left, and the last one also takes the load
   statistic of the counts. -/
module

public import proofs.«01_k».proof.Proof.Router.Counts
public import proofs.«01_k».proof.Proof.Gen.KernelIdeal.Value

@[expose] public section

noncomputable section

namespace Cert.Router

open Idealize.ShloMosaic hiding ix0 ix1 ix2 ix3 ix4 ix5
open Idealize.ShloMosaic.ValueIdx Cert.KernelIdeal Cert.KernelIdeal.Gen

/-- The origin of a rank-2 block. -/
theorem zero2 : (![0, 0] : Fin 2 → Nat) = fun _ => 0 := by decide

/-- The origin of a rank-3 block. -/
theorem zero3 : (![0, 0, 0] : Fin 3 → Nat) = fun _ => 0 := by decide

/-- The block of expert numbers a point stores. -/
def idxPay (x0 : Vec Ideal S1024x4096 .f32) (x2 : Vec Ideal S64x4096 .f32) : Vec Ideal S1024x8 .i32 :=
  k0_pay26 experts (k0_pay5 x0 x2) (k0_pay8 x0 x2) (k0_pay11 x0 x2) (k0_pay14 x0 x2) (k0_pay15 x0 x2) (k0_pay17 x0 x2) (k0_pay18 x0 x2) k0_pay19

/-- The block of probabilities a point stores. -/
def probPay (x0 : Vec Ideal S1024x4096 .f32) (x2 : Vec Ideal S64x4096 .f32) : Vec Ideal S1024x8 .f32 :=
  k0_pay27 experts (k0_pay4 x0 x2) (k0_pay7 x0 x2) (k0_pay10 x0 x2) (k0_pay13 x0 x2) (k0_pay15 x0 x2) (k0_pay16 x0 x2) (k0_pay18 x0 x2) k0_pay19

/-- The counts of a point's own block. -/
def countPay (x0 : Vec Ideal S1024x4096 .f32) (x1 : Vec Ideal S1x1x1024 .f32) (x2 : Vec Ideal S64x4096 .f32) : Vec Ideal S1x64 .f32 :=
  k0_pay28 experts (k0_pay15 x0 x2) (k0_pay18 x0 x2) k0_pay19 x1

variable (c : Dev nD) (i : grid0.Coords) (arg1 : Memref sig .tc .vmem S1024x4096 .f32) (harg1 : arg1.IsWhole)
  (arg2 : Memref sig .tc .vmem S1x1x1024 .f32) (harg2 : arg2.IsWhole) (arg3 : Memref sig .tc .vmem S64x4096 .f32) (harg3 : arg3.IsWhole)
  (arg4 : Memref sig .tc .vmem S1024x8 .i32) (harg4 : arg4.IsWhole) (arg5 : Memref sig .tc .vmem S1024x8 .f32) (harg5 : arg5.IsWhole)
  (arg6 : Memref sig .tc .vmem S1x64 .f32) (harg6 : arg6.IsWhole) (arg7 : Memref sig .tc .vmem S1x1 .f32) (harg7 : arg7.IsWhole)
  (x0 : Vec Ideal S1024x4096 .f32) (x1 : Vec Ideal S1x1x1024 .f32) (x2 : Vec Ideal S64x4096 .f32) (xo5 : Vec Ideal S1x64 .f32)

/-- The first point leaves the block of expert numbers. -/
theorem outA3 (hc0 : cond0_0 i) (hc1 : ¬cond0_1 i) (hc2 : ¬cond0_2 i) :
    out0_A_3 (F := Ideal) c i arg1 harg1 arg2 harg2 arg3 harg3 arg4 harg4 arg5 harg5 arg6 harg6 arg7 harg7 hc0 hc1 hc2 x0 x1 x2
      = idxPay x0 x2 := by
  unfold out0_A_3
  rw [View.read_writes_eq_canon _ _ _ (cover0_A_3 c i arg1 harg1 arg2 harg2 arg3 harg3 arg4 harg4 arg5 harg5 arg6 harg6 arg7 harg7 hc0 hc1 hc2 x0 x1 x2)]
  unfold kernelRun0_A
  dsimp only
  sl_unfold_words
  simp only [View.readAt_eq_ld, harg1.read_unread, harg2.read_unread, harg3.read_unread, harg6.read_unread]
  rw [View.canon_unit_zero zero2]
  simp only [View.ld_unit_zero (S := S1024x4096) zero2, View.ld_unit_zero (S := S64x4096) zero2, View.ld_unit_zero (S := S1x1x1024) zero3, View.ld_unit_zero (S := S1x64) zero2]
  rfl

/-- A middle point leaves the block of expert numbers. -/
theorem outB3 (hc0 : ¬cond0_0 i) (hc1 : cond0_1 i) (hc2 : ¬cond0_2 i) :
    out0_B_3 (F := Ideal) c i arg1 harg1 arg2 harg2 arg3 harg3 arg4 harg4 arg5 harg5 arg6 harg6 arg7 harg7 hc0 hc1 hc2 x0 x1 x2 xo5
      = idxPay x0 x2 := by
  unfold out0_B_3
  rw [View.read_writes_eq_canon _ _ _ (cover0_B_3 c i arg1 harg1 arg2 harg2 arg3 harg3 arg4 harg4 arg5 harg5 arg6 harg6 arg7 harg7 hc0 hc1 hc2 x0 x1 x2 xo5)]
  unfold kernelRun0_B
  dsimp only
  sl_unfold_words
  simp only [View.readAt_eq_ld, harg1.read_unread, harg2.read_unread, harg3.read_unread, harg6.read_unread]
  rw [View.canon_unit_zero zero2]
  simp only [View.ld_unit_zero (S := S1024x4096) zero2, View.ld_unit_zero (S := S64x4096) zero2, View.ld_unit_zero (S := S1x1x1024) zero3, View.ld_unit_zero (S := S1x64) zero2]
  rfl

/-- The last point leaves the block of expert numbers. -/
theorem outC3 (hc0 : ¬cond0_0 i) (hc1 : cond0_1 i) (hc2 : cond0_2 i) :
    out0_C_3 (F := Ideal) c i arg1 harg1 arg2 harg2 arg3 harg3 arg4 harg4 arg5 harg5 arg6 harg6 arg7 harg7 hc0 hc1 hc2 x0 x1 x2 xo5
      = idxPay x0 x2 := by
  unfold out0_C_3
  rw [View.read_writes_eq_canon _ _ _ (cover0_C_3 c i arg1 harg1 arg2 harg2 arg3 harg3 arg4 harg4 arg5 harg5 arg6 harg6 arg7 harg7 hc0 hc1 hc2 x0 x1 x2 xo5)]
  unfold kernelRun0_C
  dsimp only
  sl_unfold_words
  simp only [View.readAt_eq_ld, harg1.read_unread, harg2.read_unread, harg3.read_unread, harg6.read_unread]
  rw [View.canon_unit_zero zero2]
  simp only [View.ld_unit_zero (S := S1024x4096) zero2, View.ld_unit_zero (S := S64x4096) zero2, View.ld_unit_zero (S := S1x1x1024) zero3, View.ld_unit_zero (S := S1x64) zero2]
  rfl

/-- The first point leaves the block of probabilities. -/
theorem outA4 (hc0 : cond0_0 i) (hc1 : ¬cond0_1 i) (hc2 : ¬cond0_2 i) :
    out0_A_4 (F := Ideal) c i arg1 harg1 arg2 harg2 arg3 harg3 arg4 harg4 arg5 harg5 arg6 harg6 arg7 harg7 hc0 hc1 hc2 x0 x1 x2
      = probPay x0 x2 := by
  unfold out0_A_4
  rw [View.read_writes_eq_canon _ _ _ (cover0_A_4 c i arg1 harg1 arg2 harg2 arg3 harg3 arg4 harg4 arg5 harg5 arg6 harg6 arg7 harg7 hc0 hc1 hc2 x0 x1 x2)]
  unfold kernelRun0_A
  dsimp only
  sl_unfold_words
  simp only [View.readAt_eq_ld, harg1.read_unread, harg2.read_unread, harg3.read_unread, harg6.read_unread]
  rw [View.canon_unit_zero zero2]
  simp only [View.ld_unit_zero (S := S1024x4096) zero2, View.ld_unit_zero (S := S64x4096) zero2, View.ld_unit_zero (S := S1x1x1024) zero3, View.ld_unit_zero (S := S1x64) zero2]
  rfl

/-- A middle point leaves the block of probabilities. -/
theorem outB4 (hc0 : ¬cond0_0 i) (hc1 : cond0_1 i) (hc2 : ¬cond0_2 i) :
    out0_B_4 (F := Ideal) c i arg1 harg1 arg2 harg2 arg3 harg3 arg4 harg4 arg5 harg5 arg6 harg6 arg7 harg7 hc0 hc1 hc2 x0 x1 x2 xo5
      = probPay x0 x2 := by
  unfold out0_B_4
  rw [View.read_writes_eq_canon _ _ _ (cover0_B_4 c i arg1 harg1 arg2 harg2 arg3 harg3 arg4 harg4 arg5 harg5 arg6 harg6 arg7 harg7 hc0 hc1 hc2 x0 x1 x2 xo5)]
  unfold kernelRun0_B
  dsimp only
  sl_unfold_words
  simp only [View.readAt_eq_ld, harg1.read_unread, harg2.read_unread, harg3.read_unread, harg6.read_unread]
  rw [View.canon_unit_zero zero2]
  simp only [View.ld_unit_zero (S := S1024x4096) zero2, View.ld_unit_zero (S := S64x4096) zero2, View.ld_unit_zero (S := S1x1x1024) zero3, View.ld_unit_zero (S := S1x64) zero2]
  rfl

/-- The last point leaves the block of probabilities. -/
theorem outC4 (hc0 : ¬cond0_0 i) (hc1 : cond0_1 i) (hc2 : cond0_2 i) :
    out0_C_4 (F := Ideal) c i arg1 harg1 arg2 harg2 arg3 harg3 arg4 harg4 arg5 harg5 arg6 harg6 arg7 harg7 hc0 hc1 hc2 x0 x1 x2 xo5
      = probPay x0 x2 := by
  unfold out0_C_4
  rw [View.read_writes_eq_canon _ _ _ (cover0_C_4 c i arg1 harg1 arg2 harg2 arg3 harg3 arg4 harg4 arg5 harg5 arg6 harg6 arg7 harg7 hc0 hc1 hc2 x0 x1 x2 xo5)]
  unfold kernelRun0_C
  dsimp only
  sl_unfold_words
  simp only [View.readAt_eq_ld, harg1.read_unread, harg2.read_unread, harg3.read_unread, harg6.read_unread]
  rw [View.canon_unit_zero zero2]
  simp only [View.ld_unit_zero (S := S1024x4096) zero2, View.ld_unit_zero (S := S64x4096) zero2, View.ld_unit_zero (S := S1x1x1024) zero3, View.ld_unit_zero (S := S1x64) zero2]
  rfl

/-- The first point leaves the counts so far. -/
theorem outA5 (hc0 : cond0_0 i) (hc1 : ¬cond0_1 i) (hc2 : ¬cond0_2 i) :
    out0_A_5 (F := Ideal) c i arg1 harg1 arg2 harg2 arg3 harg3 arg4 harg4 arg5 harg5 arg6 harg6 arg7 harg7 hc0 hc1 hc2 x0 x1 x2
      = countPay x0 x1 x2 := by
  unfold out0_A_5
  rw [View.read_writes_eq_canon _ _ _ (cover0_A_5 c i arg1 harg1 arg2 harg2 arg3 harg3 arg4 harg4 arg5 harg5 arg6 harg6 arg7 harg7 hc0 hc1 hc2 x0 x1 x2)]
  unfold kernelRun0_A
  dsimp only
  sl_unfold_words
  simp only [View.readAt_eq_ld, harg1.read_unread, harg2.read_unread, harg3.read_unread, harg6.read_unread]
  rw [View.canon_unit_zero zero2]
  simp only [View.ld_unit_zero (S := S1024x4096) zero2, View.ld_unit_zero (S := S64x4096) zero2, View.ld_unit_zero (S := S1x1x1024) zero3, View.ld_unit_zero (S := S1x64) zero2]
  rfl

/-- A middle point leaves the counts so far. -/
theorem outB5 (hc0 : ¬cond0_0 i) (hc1 : cond0_1 i) (hc2 : ¬cond0_2 i) :
    out0_B_5 (F := Ideal) c i arg1 harg1 arg2 harg2 arg3 harg3 arg4 harg4 arg5 harg5 arg6 harg6 arg7 harg7 hc0 hc1 hc2 x0 x1 x2 xo5
      = k0_pay1 (countPay x0 x1 x2) xo5 := by
  unfold out0_B_5
  rw [View.read_writes_eq_canon _ _ _ (cover0_B_5 c i arg1 harg1 arg2 harg2 arg3 harg3 arg4 harg4 arg5 harg5 arg6 harg6 arg7 harg7 hc0 hc1 hc2 x0 x1 x2 xo5)]
  unfold kernelRun0_B
  dsimp only
  sl_unfold_words
  simp only [View.readAt_eq_ld, harg1.read_unread, harg2.read_unread, harg3.read_unread, harg6.read_unread]
  rw [View.canon_unit_zero zero2]
  simp only [View.ld_unit_zero (S := S1024x4096) zero2, View.ld_unit_zero (S := S64x4096) zero2, View.ld_unit_zero (S := S1x1x1024) zero3, View.ld_unit_zero (S := S1x64) zero2]
  rfl

/-- The last point leaves the counts so far. -/
theorem outC5 (hc0 : ¬cond0_0 i) (hc1 : cond0_1 i) (hc2 : cond0_2 i) :
    out0_C_5 (F := Ideal) c i arg1 harg1 arg2 harg2 arg3 harg3 arg4 harg4 arg5 harg5 arg6 harg6 arg7 harg7 hc0 hc1 hc2 x0 x1 x2 xo5
      = k0_pay1 (countPay x0 x1 x2) xo5 := by
  unfold out0_C_5
  rw [View.read_writes_eq_canon _ _ _ (cover0_C_5 c i arg1 harg1 arg2 harg2 arg3 harg3 arg4 harg4 arg5 harg5 arg6 harg6 arg7 harg7 hc0 hc1 hc2 x0 x1 x2 xo5)]
  unfold kernelRun0_C
  dsimp only
  sl_unfold_words
  simp only [View.readAt_eq_ld, harg1.read_unread, harg2.read_unread, harg3.read_unread, harg6.read_unread]
  rw [View.canon_unit_zero zero2]
  simp only [View.ld_unit_zero (S := S1024x4096) zero2, View.ld_unit_zero (S := S64x4096) zero2, View.ld_unit_zero (S := S1x1x1024) zero3, View.ld_unit_zero (S := S1x64) zero2]
  rfl

/-- The last point leaves the load statistic. -/
theorem outC6 (hc0 : ¬cond0_0 i) (hc1 : cond0_1 i) (hc2 : cond0_2 i) :
    out0_C_6 (F := Ideal) c i arg1 harg1 arg2 harg2 arg3 harg3 arg4 harg4 arg5 harg5 arg6 harg6 arg7 harg7 hc0 hc1 hc2 x0 x1 x2 xo5
      = k0_pay2 (k0_pay1 (countPay x0 x1 x2) xo5) := by
  unfold out0_C_6
  rw [View.read_writes_eq_canon _ _ _ (cover0_C_6 c i arg1 harg1 arg2 harg2 arg3 harg3 arg4 harg4 arg5 harg5 arg6 harg6 arg7 harg7 hc0 hc1 hc2 x0 x1 x2 xo5)]
  unfold kernelRun0_C
  dsimp only
  sl_unfold_words
  simp only [View.readAt_eq_ld, harg1.read_unread, harg2.read_unread, harg3.read_unread, harg6.read_unread]
  rw [View.canon_unit_zero zero2]
  simp only [View.ld_unit_zero (S := S1024x4096) zero2, View.ld_unit_zero (S := S64x4096) zero2, View.ld_unit_zero (S := S1x1x1024) zero3, View.ld_unit_zero (S := S1x64) zero2]
  rw [View.readCov_unit_zero (S := S1x64) _ zero2]
  rfl

end Cert.Router

end
-- ==== Proof.Router.Arrays.lean ====
/- What the three result arrays hold after the whole grid has run, at an index: the experts, the probabilities and the load
   statistic of the logits of the array's rows. -/
module

public import proofs.«01_k».proof.Proof.Router.Points
public import Idealize.ShloMosaic.Lib.Pipeline.ValueKit

@[expose] public section

noncomputable section

namespace Cert.Router

open Idealize.ShloMosaic hiding ix0 ix1 ix2 ix3 ix4 ix5
open Idealize.ShloMosaic.ValueIdx Idealize.ShloMosaic.TcCoe Cert.KernelIdeal Cert.KernelIdeal.Gen

variable (m : (ℓ : Loc nD τ sig) → Buf (Elt Ideal) ℓ) (c : Dev nD)

/-- The row of the array that row `r` of block `t` is. -/
def at_row (t : Fin 16) (r : Fin 1024) : Fin 16384 := ⟨1024 * t.val + r.val, by omega⟩

/-- The hidden states when the kernel is entered. -/
abbrev hid : S16384x4096.Idx → EReal := V (F := Ideal) m c main_v0

/-- The mask when the kernel is entered. -/
abbrev msk : S16x1x1024.Idx → EReal := V (F := Ideal) m c main_v2

/-- The gate's weights when the kernel is entered. -/
abbrev wts : S64x4096.Idx → EReal := V (F := Ideal) m c main_arg2

/-- The logits of one row of the array. -/
def rowAt (R : Fin 16384) : Row := fun e => ∑ k : Fin 4096, hid m c (ix2 R k) * wts m c (ix2 e k)

/-- The grid's points, in their order, are the numbers below 16. -/
def pt (t : Fin 16) : Fin cfg0.N := ⟨t.val, lt_of_lt_of_eq t.isLt (Eq.symm N_0)⟩

/-- The block of hidden states at step `t` is block `t` of the rows. -/
theorem index0 : ∀ t : Fin grid0.N, win0_0.index t 0 = t.val ∧ win0_0.index t 1 = 0 := by decide +kernel
/-- The block of the mask at step `t` is its row `t`. -/
theorem index1 : ∀ t : Fin grid0.N, win0_1.index t 0 = t.val ∧ win0_1.index t 1 = 0 ∧ win0_1.index t 2 = 0 := by decide +kernel
/-- The block of the weights is the whole array at every step. -/
theorem index2 : ∀ t : Fin grid0.N, win0_2.index t 0 = 0 ∧ win0_2.index t 1 = 0 := by decide +kernel
/-- The block of experts written at step `t` is block `t` of the rows. -/
theorem index3 : ∀ t : Fin grid0.N, win0_3.index t 0 = t.val ∧ win0_3.index t 1 = 0 := by decide +kernel
/-- The block of weights written at step `t` is block `t` of the rows. -/
theorem index4 : ∀ t : Fin grid0.N, win0_4.index t 0 = t.val ∧ win0_4.index t 1 = 0 := by decide +kernel

/-- Block `t` of the hidden states is rows `1024 t` and after. -/
theorem iblk_hid (t : Fin 16) (r : Fin 1024) (k : Fin 4096) :
    (iblk m c 0 (pt t) : S1024x4096.Idx → EReal) (ix2 r k) = hid m c (ix2 (at_row t r) k) := by
  show hid m c ((win0_0.rect (pt t)).emb (ix2 r k)) = _
  congr 1
  funext a
  apply Fin.ext
  rw [Pipeline.Window.rect_emb_val win0_0 (pt t) (ix2 r k) a rfl]
  match a with
  | ⟨0, _⟩ =>
    show win0_0.index (pt t) 0 * 1024 + r.val = 1024 * t.val + r.val
    rw [(index0 (pt t)).1]; show t.val * 1024 + _ = _; omega
  | ⟨1, _⟩ =>
    show win0_0.index (pt t) 1 * 4096 + k.val = k.val
    rw [(index0 (pt t)).2]; omega

/-- Block `t` of the mask is the mask's line `t`. -/
theorem iblk_msk (t : Fin 16) (r : Fin 1024) :
    (iblk m c 1 (pt t) : S1x1x1024.Idx → EReal) (ix3 0 0 r) = msk m c (ix3 t 0 r) := by
  show msk m c ((win0_1.rect (pt t)).emb (ix3 0 0 r)) = _
  congr 1
  funext a
  apply Fin.ext
  rw [Pipeline.Window.rect_emb_val win0_1 (pt t) (ix3 0 0 r) a rfl]
  match a with
  | ⟨0, _⟩ =>
    show win0_1.index (pt t) 0 * 1 + 0 = t.val
    rw [(index1 (pt t)).1]; show t.val * 1 + 0 = _; omega
  | ⟨1, _⟩ =>
    show win0_1.index (pt t) 1 * 1 + 0 = 0
    rw [(index1 (pt t)).2.1]
  | ⟨2, _⟩ =>
    show win0_1.index (pt t) 2 * 1024 + r.val = r.val
    rw [(index1 (pt t)).2.2]; omega

/-- Every block of the weights is the weights. -/
theorem iblk_wts (t : Fin 16) (e : Fin 64) (k : Fin 4096) :
    (iblk m c 2 (pt t) : S64x4096.Idx → EReal) (ix2 e k) = wts m c (ix2 e k) := by
  show wts m c ((win0_2.rect (pt t)).emb (ix2 e k)) = _
  congr 1
  funext a
  apply Fin.ext
  rw [Pipeline.Window.rect_emb_val win0_2 (pt t) (ix2 e k) a rfl]
  match a with
  | ⟨0, _⟩ =>
    show win0_2.index (pt t) 0 * 64 + e.val = e.val
    rw [(index2 (pt t)).1]; omega
  | ⟨1, _⟩ =>
    show win0_2.index (pt t) 1 * 4096 + k.val = k.val
    rw [(index2 (pt t)).2]; omega

/-- The logits of a block's row are those of the array's row. -/
theorem blockRow_eq (t : Fin 16) (r : Fin 1024) :
    blockRow (iblk m c 0 (pt t)) (iblk m c 2 (pt t)) r = rowAt m c (at_row t r) :=
  funext fun e => Finset.sum_congr rfl fun k _ =>
    congrArg₂ (fun a b : EReal => a * b) (iblk_hid m c t r k) (iblk_wts m c t e k)

/-- Every point leaves its block of expert numbers. -/
theorem left3 (t : Fin cfg0.N) : (outsAt0 m c t.val t.isLt).1 = idxPay (iblk m c 0 t) (iblk m c 2 t) := by
  have hN : t.val < 16 := lt_of_lt_of_eq t.isLt N_0
  by_cases h0 : t.val % 16 = 0
  · rw [outsAt0_A m c t h0 (by omega) (by omega)]; dsimp only; rw [outA3]
  · by_cases h2 : t.val % 16 = 15
    · rw [outsAt0_C m c t h0 (by omega) h2]; dsimp only; rw [outC3]
    · rw [outsAt0_B m c t h0 (by omega) h2]; dsimp only; rw [outB3]

/-- Every point leaves its block of probabilities. -/
theorem left4 (t : Fin cfg0.N) : (outsAt0 m c t.val t.isLt).2.1 = probPay (iblk m c 0 t) (iblk m c 2 t) := by
  have hN : t.val < 16 := lt_of_lt_of_eq t.isLt N_0
  by_cases h0 : t.val % 16 = 0
  · rw [outsAt0_A m c t h0 (by omega) (by omega)]; dsimp only; rw [outA4]
  · by_cases h2 : t.val % 16 = 15
    · rw [outsAt0_C m c t h0 (by omega) h2]; dsimp only; rw [outC4]
    · rw [outsAt0_B m c t h0 (by omega) h2]; dsimp only; rw [outB4]

/-- The counts of point `t`'s own block. -/
abbrev own (t : Fin cfg0.N) : Vec Ideal S1x64 .f32 := countPay (iblk m c 0 t) (iblk m c 1 t) (iblk m c 2 t)

/-- Adding a block's counts to what was there, at an expert. -/
theorem add_apply (x y : Vec Ideal S1x64 .f32) (i : S1x64.Idx) : k0_pay1 x y i = y i + x i := by
  unfold k0_pay1
  simp only [shapeCast_self]
  rfl

/-- After point `n` the counts are the sum of the counts of the points up to `n`. -/
theorem left5 (n : Nat) (hn : n < cfg0.N) (i : S1x64.Idx) :
    (outsAt0 m c n hn).2.2.1 i = ∑ s : Fin (n + 1), own m c ⟨s.val, lt_of_le_of_lt (Nat.le_of_lt_succ s.isLt) hn⟩ i := by
  induction n with
  | zero =>
    rw [outsAt0_A m c ⟨0, hn⟩ (show 0 % 16 = 0 by omega) (show ¬1 ≤ 0 by omega) (show ¬0 % 16 = 15 by omega)]
    dsimp only
    rw [outA5, Fin.sum_univ_one]
    rfl
  | succ n ih =>
    have hN : n + 1 < 16 := lt_of_lt_of_eq hn N_0
    rw [Fin.sum_univ_castSucc]
    have hi := ih (Nat.lt_of_succ_lt hn)
    by_cases h2 : (n + 1) % 16 = 15
    · rw [outsAt0_C m c ⟨n + 1, hn⟩ (show ¬(n + 1) % 16 = 0 by omega) (Nat.le_add_left 1 n) h2]
      dsimp only
      rw [outC5, add_apply]
      exact congrArg (fun z : EReal => z + own m c ⟨n + 1, hn⟩ i) hi
    · rw [outsAt0_B m c ⟨n + 1, hn⟩ (show ¬(n + 1) % 16 = 0 by omega) (Nat.le_add_left 1 n) h2]
      dsimp only
      rw [outB5, add_apply]
      exact congrArg (fun z : EReal => z + own m c ⟨n + 1, hn⟩ i) hi

/-- The last point leaves the load statistic of its counts. -/
theorem left6 (i : S1x1.Idx) :
    (outsAt0 m c (pt 15).val (pt 15).isLt).2.2.2 i = loadStat fun e => (outsAt0 m c (pt 15).val (pt 15).isLt).2.2.1 (ix2 0 e) := by
  rw [outsAt0_C m c (pt 15) (show ¬15 % 16 = 0 by omega) (show 1 ≤ 15 by omega) (show 15 % 16 = 15 by omega)]
  dsimp only
  rw [outC6, outC5]
  exact stat_block _ i

/-- A row of the array, as a block and a row in it. -/
theorem at_row_split (R : Fin 16384) : at_row ⟨R.val / 1024, by omega⟩ ⟨R.val % 1024, by omega⟩ = R :=
  Fin.ext (Nat.div_add_mod R.val 1024)

/-- Where row `r`, column `k` of the block of expert numbers sits. -/
theorem emb3 (t : Fin 16) (r : Fin 1024) (k : Fin 8) :
    (win0_3.rect (pt t)).emb (ix2 r k) = (ix2 (at_row t r) k : S16384x8.Idx) := by
  funext a
  apply Fin.ext
  rw [Pipeline.Window.rect_emb_val win0_3 (pt t) (ix2 r k) a rfl]
  match a with
  | ⟨0, _⟩ =>
    show win0_3.index (pt t) 0 * 1024 + r.val = 1024 * t.val + r.val
    rw [(index3 (pt t)).1]; show t.val * 1024 + _ = _; omega
  | ⟨1, _⟩ =>
    show win0_3.index (pt t) 1 * 8 + k.val = k.val
    rw [(index3 (pt t)).2]; omega

/-- Where row `r`, column `k` of the block of probabilities sits. -/
theorem emb4 (t : Fin 16) (r : Fin 1024) (k : Fin 8) :
    (win0_4.rect (pt t)).emb (ix2 r k) = (ix2 (at_row t r) k : S16384x8.Idx) := by
  funext a
  apply Fin.ext
  rw [Pipeline.Window.rect_emb_val win0_4 (pt t) (ix2 r k) a rfl]
  match a with
  | ⟨0, _⟩ =>
    show win0_4.index (pt t) 0 * 1024 + r.val = 1024 * t.val + r.val
    rw [(index4 (pt t)).1]; show t.val * 1024 + _ = _; omega
  | ⟨1, _⟩ =>
    show win0_4.index (pt t) 1 * 8 + k.val = k.val
    rw [(index4 (pt t)).2]; omega

/-- The array of expert numbers after the run, read at a block's row. -/
theorem arr3_at (t : Fin 16) (r : Fin 1024) (k : Fin 8) :
    ((dats m 0 c).arrAt 3 cfg0.N : S16384x8.Idx → BitVec 32) (ix2 (at_row t r) k)
      = idxPay (iblk m c 0 (pt t)) (iblk m c 2 (pt t)) (ix2 r k) := by
  rw [← emb3, ← left3]
  have h := congrFun (Cert.KernelIdeal.Value.blocks3 m c (pt t) (flush0_3 _)) (ix2 r k)
  rw [Cert.KernelIdeal.Value.flushed3] at h
  exact h

/-- The array of probabilities after the run, read at a block's row. -/
theorem arr4_at (t : Fin 16) (r : Fin 1024) (k : Fin 8) :
    ((dats m 0 c).arrAt 4 cfg0.N : S16384x8.Idx → EReal) (ix2 (at_row t r) k)
      = probPay (iblk m c 0 (pt t)) (iblk m c 2 (pt t)) (ix2 r k) := by
  rw [← emb4, ← left4]
  have h := congrFun (Cert.KernelIdeal.Value.blocks4 m c (pt t) (flush0_4 _)) (ix2 r k)
  rw [Cert.KernelIdeal.Value.flushed4] at h
  exact h

/-- Column `k` of row `R` of the first result is the expert of the `k`-th greatest logit of the row. -/
theorem final3 (R : Fin 16384) (k : Fin 8) :
    ((dats m 0 c).arrAt 3 cfg0.N : S16384x8.Idx → BitVec 32) (ix2 R k)
      = BitVec.ofNat 32 (sel (rowAt m c R) k.val).val := by
  rw [← at_row_split R, arr3_at]
  refine (idx_block _ _ _ _).trans ?_
  rw [blockRow_eq]

/-- Column `k` of row `R` of the second result is that logit's sigmoid over the sum of the eight. -/
theorem final4 (hb : ∀ R e, rowAt m c R e ≠ ⊥) (R : Fin 16384) (k : Fin 8) :
    ((dats m 0 c).arrAt 4 cfg0.N : S16384x8.Idx → EReal) (ix2 R k)
      = Ideal.div (Ideal.logistic (rowAt m c R (sel (rowAt m c R) k.val)))
          (∑ j : Fin 8, Ideal.logistic (rowAt m c R (sel (rowAt m c R) j.val))) := by
  rw [← at_row_split R, arr4_at]
  refine (prob_block _ _ _ ?_ _).trans ?_
  · rw [blockRow_eq]; exact hb _
  · rw [blockRow_eq]

/-- The rows of the array are the rows of the sixteen blocks. -/
def rowEquiv : Fin 16 × Fin 1024 ≃ Fin 16384 where
  toFun p := at_row p.1 p.2
  invFun R := (⟨R.val / 1024, by omega⟩, ⟨R.val % 1024, by omega⟩)
  left_inv p := by
    refine Prod.ext (Fin.ext ?_) (Fin.ext ?_)
    · show (1024 * p.1.val + p.2.val) / 1024 = p.1.val; omega
    · show (1024 * p.1.val + p.2.val) % 1024 = p.2.val; omega
  right_inv R := at_row_split R

/-- The mask of one row of the array. -/
def mskAt (R : Fin 16384) : EReal := msk m c (ix3 ⟨R.val / 1024, by omega⟩ 0 ⟨R.val % 1024, by omega⟩)

/-- The mask of token `r` of block `t` is at `(t, 0, r)`. -/
theorem mskAt_row (t : Fin 16) (r : Fin 1024) : mskAt m c (at_row t r) = msk m c (ix3 t 0 r) := by
  have h1 : (⟨(at_row t r).val / 1024, by omega⟩ : Fin 16) = t := Fin.ext (by show (1024 * t.val + r.val) / 1024 = t.val; omega)
  have h2 : (⟨(at_row t r).val % 1024, by omega⟩ : Fin 1024) = r := Fin.ext (by show (1024 * t.val + r.val) % 1024 = r.val; omega)
  unfold mskAt
  rw [h1, h2]

/-- How many unmasked rows chose each expert. -/
def totals : Row := fun e => ∑ R : Fin 16384, mskAt m c R * taken (rowAt m c R) e

/-- A point's own counts are those of its rows. -/
theorem counts_own (hb : ∀ R e, rowAt m c R e ≠ ⊥)
    (ht : ∀ R e, (∀ j, j < 8 → sel (rowAt m c R) j ≠ e) → rowAt m c R e ≠ ⊤) (t : Fin 16) (e : Fin 64) :
    own m c (pt t) (ix2 0 e) = ∑ r : Fin 1024, mskAt m c (at_row t r) * taken (rowAt m c (at_row t r)) e := by
  refine (count_block _ _ _ ?_ ?_ e).trans (Finset.sum_congr rfl fun r _ => ?_)
  · intro r e'; rw [blockRow_eq]; exact hb _ _
  · intro r e'; rw [blockRow_eq]; exact ht _ _
  · rw [blockRow_eq, iblk_msk, mskAt_row]

/-- After the last point the counts are those of all rows. -/
theorem counts_last (hb : ∀ R e, rowAt m c R e ≠ ⊥)
    (ht : ∀ R e, (∀ j, j < 8 → sel (rowAt m c R) j ≠ e) → rowAt m c R e ≠ ⊤) (e : Fin 64) :
    (outsAt0 m c (pt 15).val (pt 15).isLt).2.2.1 (ix2 0 e) = totals m c e := by
  refine (left5 m c _ _ _).trans ?_
  unfold totals
  rw [← rowEquiv.sum_comp, Fintype.sum_prod_type]
  exact Finset.sum_congr rfl fun t _ => counts_own m c hb ht t e

/-- The third result is the load statistic of the counts of all rows. -/
theorem final6 (hb : ∀ R e, rowAt m c R e ≠ ⊥)
    (ht : ∀ R e, (∀ j, j < 8 → sel (rowAt m c R) j ≠ e) → rowAt m c R e ≠ ⊤) (i : S1x1.Idx) :
    ((dats m 0 c).arrAt 6 cfg0.N : S1x1.Idx → EReal) i = loadStat (totals m c) := by
  refine ((dats m 0 c).arrAt_emb_eq_after_last 6 (pt 15) (by decide +kernel) i).trans ?_
  have h := congrFun (after0_6 m c (pt 15)) i
  refine Eq.trans ?_ ((left6 m c i).trans (congrArg loadStat (funext fun e => counts_last m c hb ht e)))
  exact h

end Cert.Router

end
-- ==== Proof.Router.Host.lean ====
/- The reference's host operations read at an index: the sorted prefix of a row, and the gather of one element per row. -/
module

public import proofs.«01_k».proof.Proof.Router.Counts
public import Idealize.ShloMosaic.Lib.ValueIdxCore
public import Idealize.ShloMosaic.Lib.Routing.OpsPair

@[expose] public section

noncomputable section

namespace Cert.Router

open Idealize.ShloMosaic hiding ix0 ix1 ix2 ix3 ix4 ix5
open Idealize.ShloMosaic.ValueIdx

/-- Replacing the second coordinate of a place of a matrix. -/
theorem along_one {N M : Nat} (j : (⟨2, ![N, M]⟩ : Shape).Idx) (k : Fin M) (hd : 1 < (⟨2, ![N, M]⟩ : Shape).rank) :
    j.along ⟨1, hd⟩ k = ix2 ⟨(j 0).val, (j 0).isLt⟩ k := by
  unfold Shape.Idx.along
  funext a
  match a with
  | ⟨0, _⟩ => rfl
  | ⟨1, _⟩ => rfl

/-- The values of the sorted prefix of each row: place `k` of row `R` is the row at its k-th sorted position. -/
theorem topK_fst {α : Type} {N M K : Nat} (gt : α → α → BitVec 1) (x : (⟨2, ![N, M]⟩ : Shape).Idx → α)
    (h : (⟨2, ![N, M]⟩ : Shape).Slices (fun _ => 0) ⟨2, ![N, K]⟩) (R : Fin N) (k : Fin K) (hk : k.val < M) :
    (Host.topK ⟨2, ![N, K]⟩ 1 gt x h).1 (ix2 R k)
      = x (ix2 R (sortedFrom (fun a b : Fin M => gt (x (ix2 R a)) (x (ix2 R b)) == 1#1) ⟨k.val, hk⟩)) := by
  unfold Host.topK Host.sort2 extractStridedSlice
  dsimp only
  rw [dif_pos Nat.one_lt_two]
  dsimp only
  have : ∀ (j : (⟨2, ![N, M]⟩ : Shape).Idx), j = ix2 R ⟨k.val, hk⟩ →
      x (j.along ⟨1, Nat.one_lt_two⟩ (sortedFrom (fun a b : Fin M => gt (x (j.along ⟨1, Nat.one_lt_two⟩ a)) (x (j.along ⟨1, Nat.one_lt_two⟩ b)) == 1#1) (j 1)))
      = x (ix2 R (sortedFrom (fun a b : Fin M => gt (x (ix2 R a)) (x (ix2 R b)) == 1#1) ⟨k.val, hk⟩)) := by
    rintro _ rfl
    simp only [along_one]
    exact congrArg x (along_one _ _ _)
  refine this _ (funext fun a => ?_)
  match a with
  | ⟨0, _⟩ => exact Fin.ext (Nat.zero_add _)
  | ⟨1, _⟩ => exact Fin.ext (Nat.zero_add _)

/-- The positions of the sorted prefix of each row, as 32-bit words. -/
theorem topK_snd {α : Type} {N M K : Nat} (gt : α → α → BitVec 1) (x : (⟨2, ![N, M]⟩ : Shape).Idx → α)
    (h : (⟨2, ![N, M]⟩ : Shape).Slices (fun _ => 0) ⟨2, ![N, K]⟩) (R : Fin N) (k : Fin K) (hk : k.val < M) :
    (Host.topK ⟨2, ![N, K]⟩ 1 gt x h).2 (ix2 R k)
      = BitVec.ofNat 32 (sortedFrom (fun a b : Fin M => gt (x (ix2 R a)) (x (ix2 R b)) == 1#1) ⟨k.val, hk⟩).val := by
  unfold Host.topK Host.sort2 extractStridedSlice
  dsimp only
  rw [dif_pos Nat.one_lt_two]
  dsimp only
  have : ∀ (j : (⟨2, ![N, M]⟩ : Shape).Idx), j = ix2 R ⟨k.val, hk⟩ →
      BitVec.ofNat 32 (sortedFrom (fun a b : Fin M => gt (x (j.along ⟨1, Nat.one_lt_two⟩ a)) (x (j.along ⟨1, Nat.one_lt_two⟩ b)) == 1#1) (j 1)).val
      = BitVec.ofNat 32 (sortedFrom (fun a b : Fin M => gt (x (ix2 R a)) (x (ix2 R b)) == 1#1) ⟨k.val, hk⟩).val := by
    rintro _ rfl
    simp only [along_one]
    rfl
  refine this _ (funext fun a => ?_)
  match a with
  | ⟨0, _⟩ => exact Fin.ext (Nat.zero_add _)
  | ⟨1, _⟩ => exact Fin.ext (Nat.zero_add _)

/-- One element of each row taken at an index: element `(R, k)` is row `R` at the word at `(R, k, 0)`, for a word in range. -/
theorem gather_row {α : Type} {N C B : Nat} (d : GatherDims ⟨2, ![N, C]⟩ ⟨3, ![N, B, 1]⟩ ⟨2, ![N, B]⟩)
    (ho : d.offsetDims = []) (hc : d.collapsedSliceDims = [1]) (hb : d.operandBatchingDims = [0]) (hs : d.startIndicesBatchingDims = [0])
    (hm : d.startIndexMap = [1]) (hv : d.indexVectorDim = 2) (hz : d.sliceSizes = ![1, 1])
    (x : (⟨2, ![N, C]⟩ : Shape).Idx → α) (idx : IVec ⟨3, ![N, B, 1]⟩ 32) (R : Fin N) (k : Fin B) (e : Fin C)
    (he : (idx (ix3 R k 0)).toInt = (e.val : Int)) :
    Host.gather d x idx (ix2 R k) = x (ix2 R e) := by
  obtain ⟨od, cd, bd, sd, md, vd, zd, wf⟩ := d
  dsimp only at ho hc hb hs hm hv hz
  subst ho hc hb hs hm hv hz
  unfold Host.gather
  congr 1
  funext a
  refine Fin.ext ?_
  show GatherDims.start _ (ix2 R k) idx a + GatherDims.batchCoord _ (ix2 R k) a + GatherDims.offCoord _ (ix2 R k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (q : Fin 1) (wf : _), GatherDims.siIdx (⟨[], [1], [0], [0], [1], 2, ![1, 1], wf⟩ : GatherDims ⟨2, ![N, C]⟩ ⟨3, ![N, B, 1]⟩ ⟨2, ![N, B]⟩) (ix2 R k) q = ix3 R k 0 := by
      intro q wf
      obtain rfl : q = 0 := Subsingleton.elim _ _
      funext b; refine Fin.ext ?_
      match b with
      | ⟨0, _⟩ => rfl
      | ⟨1, _⟩ => rfl
      | ⟨2, _⟩ => rfl
    erw [hsi]
    rw [he]
    show min ((e.val : Int).toNat) (C - 1) = e.val
    have := e.isLt
    omega

/-- A scatter into a vector by one index word each: update `j` lands at the entry its word names. -/
theorem scatter_one {N n : Nat} (d : ScatterDims ⟨1, ![N]⟩ ⟨2, ![n, 1]⟩ ⟨1, ![n]⟩)
    (hu : d.updateWindowDims = []) (hi : d.insertedWindowDims = [0]) (hm : d.scatterDimsToOperandDims = [0]) (hv : d.indexVectorDim = 1)
    (idx : IVec ⟨2, ![n, 1]⟩ 32) (j : Fin n) (e : Fin N) :
    d.resultIdx? (ix1 j) idx = some (ix1 e) ↔ (idx (ix2 j 0)).toInt = (e.val : Int) := by
  obtain ⟨ud, id, md, vd, wf⟩ := d
  dsimp only at hu hi hm hv
  subst hu hi hm hv
  rw [Routing.resultIdx?_eq_some]
  have h0 : ∀ a : Fin 1, a = 0 := fun a => Subsingleton.elim _ _
  have hw : ∀ wf, (⟨[], [0], [0], 1, wf⟩ : ScatterDims ⟨1, ![N]⟩ ⟨2, ![n, 1]⟩ ⟨1, ![n]⟩).window (ix1 j) 0 = 0 := by
    intro wf
    rfl
  have hs : ∀ wf, (⟨[], [0], [0], 1, wf⟩ : ScatterDims ⟨1, ![N]⟩ ⟨2, ![n, 1]⟩ ⟨1, ![n]⟩).start (ix1 j) idx 0 = (idx (ix2 j 0)).toInt := by
    intro wf
    unfold ScatterDims.start
    rw [dif_pos (List.mem_singleton.mpr rfl)]
    refine congrArg (fun q => (idx q).toInt) (funext fun b => Fin.ext ?_)
    match b with
    | ⟨0, _⟩ => rfl
    | ⟨1, _⟩ => rfl
  constructor
  · intro h
    have := h 0
    rw [hw, hs] at this
    simp only [Nat.cast_zero, add_zero] at this
    exact this
  · intro h a
    rw [show a = 0 from Subsingleton.elim (α := Fin 1) _ _, hw, hs, h]
    simp
    rfl

/-- The word of a number below sixty-four reads back as that number. -/
theorem word_int (e : Fin 64) : (BitVec.ofNat 32 e.val).toInt = (e.val : Int) := by
  revert e; decide

/-- The word of a number below sixty-four is not negative, so jnp's wrap of a negative index leaves it. -/
theorem word_wrap (e : Fin 64) (a : BitVec 32) :
    Scalar.select (IntOp.cmpi .slt (BitVec.ofNat 32 e.val) 0#32) a (BitVec.ofNat 32 e.val) = BitVec.ofNat 32 e.val := by
  refine Routing.wrap_of_lt _ _ ?_
  revert e; decide

/-- The word of a number below sixty-four is in range. -/
theorem word_range (e : Fin 64) :
    IntOp.andi (IntOp.cmpi .sge (BitVec.ofNat 32 e.val) 0#32) (IntOp.cmpi .sle (BitVec.ofNat 32 e.val) 63#32) = 1#1 := by
  revert e; decide

end Cert.Router

end
-- ==== Proof.Router.Reference.lean ====
/- The reference's results row by row, under zero biases and logits above -∞: the selected experts, their normalised weights, and the statistic of the counts. -/
module

public import proofs.«01_k».proof.Proof.Router.Host
public import proofs.«01_k».proof.Proof.Gen.ReferenceIdeal.Read
public import Idealize.ShloMosaic.Lib.ReduceAll
public import Idealize.ShloMosaic.Lib.IdealHost

@[expose] public section

noncomputable section

namespace Cert.Router

open Idealize.ShloMosaic hiding ix0 ix1 ix2 ix3 ix4 ix5
open Idealize.ShloMosaic.ValueIdx Idealize.ShloMosaic.TcCoe Cert.ReferenceIdeal Cert.ReferenceIdeal.Gen Cert.ReferenceIdeal.Read

/-- The arrays of the arguments at extended reals. -/
abbrev Hid := (⟨S4x4096x4096, .f32⟩ : BufTy).Contents (Elt Ideal)
/-- The token mask. -/
abbrev Msk := (⟨S4x4096, .i1⟩ : BufTy).Contents (Elt Ideal)
/-- The gate's weights. -/
abbrev Wts := (⟨S64x4096, .f32⟩ : BufTy).Contents (Elt Ideal)
/-- A bias over the experts. -/
abbrev Bias := (⟨S64, .f32⟩ : BufTy).Contents (Elt Ideal)

/-- The logits of token `R`. -/
def refRow (x0 : Hid) (x2 : Wts) (R : Fin 16384) : Row := fun e => val_main_v3 (F := Ideal) x0 x2 (ix2 R e)

/-- The weight a token carries in the counts: one where the mask holds, zero elsewhere. -/
def refMsk (x1 : Msk) (R : Fin 16384) : EReal := val_main_v21 (F := Ideal) x1 (ix1 R)

/-- The logits as sums over the hidden coordinate. -/
theorem refRow_eq (x0 : Hid) (x2 : Wts) (R : Fin 16384) (e : Fin 64) :
    refRow x0 x2 R e = ∑ k : Fin 4096, val_main_v0 (F := Ideal) x0 (ix2 R k) * x2 (ix2 e k) := by
  unfold refRow
  rw [val_main_v3_apply]
  refine Finset.sum_congr rfl fun k _ => ?_
  rw [val_main_v2_apply]
  refine congrArg₂ (· * ·) (congrArg _ ?_) (congrArg x2 ?_)
  · funext a
    match a with
    | ⟨0, _⟩ => rfl
    | ⟨1, _⟩ => rfl
  · funext a
    match a with
    | ⟨0, _⟩ => rfl
    | ⟨1, _⟩ => rfl

section
variable (x0 : Hid) (x1 : Msk) (x2 : Wts) (x3 x4 : Bias) (h3 : ∀ e, x3 (ix1 e) = (0 : EReal)) (h4 : ∀ e, x4 (ix1 e) = (0 : EReal))
variable (hb : ∀ R e, refRow x0 x2 R e ≠ ⊥)

include h3 in
/-- With no gate bias the gate's output is the logits. -/
theorem gate_eq (R : Fin 16384) (e : Fin 64) : val_main_v6 (F := Ideal) x0 x2 x3 (ix2 R e) = refRow x0 x2 R e := by
  rw [val_main_v6_apply, val_main_v5_apply, val_main_v4_apply]
  have : idx_main_v4 (idx_main_v5 (ix2 R e)) = ix1 e := ValueIdx.eq_ix1 _
  rw [this, h3]
  exact add_zero _

include h3 h4 in
/-- With no biases the ranking scores are the logits. -/
theorem score_eq (R : Fin 16384) (e : Fin 64) : val_main_v15 (F := Ideal) x0 x2 x3 x4 (ix2 R e) = refRow x0 x2 R e := by
  rw [val_main_v15_apply, gate_eq x0 x2 x3 h3, val_main_v14_apply, val_main_v13_apply]
  have : idx_main_v13 (idx_main_v14 (ix2 R e)) = ix1 e := ValueIdx.eq_ix1 _
  rw [this, h4]
  exact add_zero _

include h3 h4 hb in
/-- The reference's experts are the rounds' picks. -/
theorem indices_eq (R : Fin 16384) (k : Fin 8) :
    val_main_indices (F := Ideal) x0 x2 x3 x4 (ix2 R k) = BitVec.ofNat 32 (sel (refRow x0 x2 R) k.val).val := by
  unfold val_main_indices
  have hk : k.val < 64 := lt_trans k.isLt (by decide)
  refine (topK_snd _ _ _ R k hk).trans ?_
  have : (fun a b : Fin 64 => FloatOps.cmpfTotal (F := Ideal) (φ := .f32) .gt (val_main_v15 (F := Ideal) x0 x2 x3 x4 (ix2 R a)) (val_main_v15 (F := Ideal) x0 x2 x3 x4 (ix2 R b)) == 1#1)
      = fun a b : Fin 64 => Ideal.cmpTotal .gt (refRow x0 x2 R a) (refRow x0 x2 R b) == 1#1 := by
    funext a b
    rw [score_eq x0 x2 x3 x4 h3 h4, score_eq x0 x2 x3 x4 h3 h4]
    rfl
  rw [this, sortedFrom_eq_sel (hb R) ⟨k.val, hk⟩]

include h3 in
/-- The reference's sigmoid of a logit. -/
theorem sigmoid_eq (R : Fin 16384) (e : Fin 64) :
    val_main_v12 (F := Ideal) x0 x2 x3 (ix2 R e) = Ideal.logistic (refRow x0 x2 R e) := by
  rw [val_main_v12_apply, val_main_v11_apply, val_main_cst_0_apply, val_main_v10_apply, val_main_v9_apply, val_main_cst_apply, val_main_v8_apply,
    val_main_v7_apply, gate_eq x0 x2 x3 h3]
  show Ideal.div (Ideal.ofBits .f32 0x3F800000#32) (Ideal.ofBits .f32 0x3F800000#32 + Ideal.exp (-(refRow x0 x2 R e))) = _
  rw [Ideal.ofBits_one_f32]
  rfl

include h3 h4 hb in
/-- jnp's wrap of a negative index leaves the reference's experts. -/
theorem wrapped_eq (R : Fin 16384) (k : Fin 8) (z : Fin 1) :
    val_main_call0_v5 (F := Ideal) x0 x2 x3 x4 (ix3 R k z) = BitVec.ofNat 32 (sel (refRow x0 x2 R) k.val).val := by
  rw [val_main_call0_v5_apply]
  have : idx_main_call0_v5 (ix3 R k z) = ix2 R k := by
    have := R.isLt
    have := k.isLt
    have := z.isLt
    funext a
    match a with
    | ⟨0, _⟩ => exact Fin.ext (show ((R.val * 8 + k.val) * 1 + z.val) / 8 = R.val by omega)
    | ⟨1, _⟩ => exact Fin.ext (show ((R.val * 8 + k.val) * 1 + z.val) % 8 = k.val by omega)
  rw [this, val_main_call0_v4_apply, val_main_call0_v1_apply, val_main_call0_v0_apply, val_main_call0_c_apply,
    indices_eq x0 x2 x3 x4 h3 h4 hb]
  exact word_wrap _ _

include h3 h4 hb in
/-- Every index of the reference is in range. -/
theorem inrange_eq (j : S16384x8.Idx) : val_main_call0_v12 (F := Ideal) x0 x2 x3 x4 j = 1#1 := by
  unfold val_main_call0_v12
  refine Host.reduce_andi_one _ _ _ _ j rfl fun i => ?_
  obtain ⟨R, k, z, rfl⟩ : ∃ R k z, i = ix3 R k z := ⟨_, _, _, ValueIdx.eq_ix3 i⟩
  rw [val_main_call0_v11_apply, val_main_call0_v7_apply, val_main_call0_v10_apply, wrapped_eq x0 x2 x3 x4 h3 h4 hb,
    val_main_call0_v6_apply, val_main_call0_c_2_apply, val_main_call0_v9_apply, val_main_call0_v8_apply, val_main_call0_c_1_apply]
  exact word_range _

include h3 h4 hb in
/-- The sigmoids of the selected experts. -/
theorem weight_eq (R : Fin 16384) (k : Fin 8) :
    val_main_v16 (F := Ideal) x0 x2 x3 x4 (ix2 R k) = Ideal.logistic (refRow x0 x2 R (sel (refRow x0 x2 R) k.val)) := by
  rw [val_main_v16_apply, inrange_eq x0 x2 x3 x4 h3 h4 hb, select_one]
  unfold val_main_call0_v13
  rw [gather_row gather_S16384x64_S16384x8x1_S16384x8_n_1_0_0_1_2_11 rfl rfl rfl rfl rfl rfl rfl _ _ R k (sel (refRow x0 x2 R) k.val)
    (by rw [wrapped_eq x0 x2 x3 x4 h3 h4 hb]; exact word_int _), sigmoid_eq x0 x2 x3 h3]

include h3 h4 hb in
/-- The reference's weights: each selected sigmoid over the sum of the eight. -/
theorem probs_eq (R : Fin 16384) (k : Fin 8) :
    val_main_v20 (F := Ideal) x0 x2 x3 x4 (ix2 R k)
      = Ideal.div (Ideal.logistic (refRow x0 x2 R (sel (refRow x0 x2 R) k.val))) (∑ j : Fin 8, Ideal.logistic (refRow x0 x2 R (sel (refRow x0 x2 R) j.val))) := by
  rw [val_main_v20_apply, weight_eq x0 x2 x3 x4 h3 h4 hb, val_main_v19_apply, val_main_v18_apply, val_main_v17_apply, val_main_cst_1_apply]
  have e : (FloatOps.ofBits (F := Ideal) .f32 0x00000000#32 : EReal) = 0 := Ideal.ofBits_zero_f32
  rw [e, zero_add]
  refine congrArg (Ideal.div _) (Finset.sum_congr rfl fun j _ => ?_)
  rw [← weight_eq x0 x2 x3 x4 h3 h4 hb]
  refine congrArg _ (funext fun a => ?_)
  match a with
  | ⟨0, _⟩ => rfl
  | ⟨1, _⟩ => rfl

/-- Token `R` and choice `k` at their place among the flattened choices. -/
def flat : Fin 16384 × Fin 8 ≃ S131072.Idx where
  toFun p := ix1 ⟨p.1.val * 8 + p.2.val, by have := p.1.isLt; have := p.2.isLt; omega⟩
  invFun j := (⟨(j 0).val / 8, by have : (j 0).val < 131072 := (j 0).isLt; omega⟩, ⟨(j 0).val % 8, by omega⟩)
  left_inv p := by
    have := p.2.isLt
    refine Prod.ext (Fin.ext ?_) (Fin.ext ?_)
    · show (p.1.val * 8 + p.2.val) / 8 = p.1.val
      omega
    · show (p.1.val * 8 + p.2.val) % 8 = p.2.val
      omega
  right_inv j := by
    refine ((ValueIdx.eq_ix1 j).trans (congrArg ix1 (Fin.ext ?_))).symm
    show (j 0).val = (j 0).val / 8 * 8 + (j 0).val % 8
    omega

include h3 h4 hb in
/-- The flattened choices, wrapped, are the experts. -/
theorem choice_eq (R : Fin 16384) (k : Fin 8) (n : Fin 131072) (hn : n.val = R.val * 8 + k.val) :
    val_main_v31 (F := Ideal) x0 x2 x3 x4 (ix2 n 0) = BitVec.ofNat 32 (sel (refRow x0 x2 R) k.val).val := by
  have e1 : idx_main_v31 (ix2 n 0) = ix1 n := ValueIdx.eq_ix1 _
  have e2 : val_main_v25 (F := Ideal) x0 x2 x3 x4 (ix1 n) = BitVec.ofNat 32 (sel (refRow x0 x2 R) k.val).val := by
    rw [val_main_v25_apply]
    have : idx_main_v25 (ix1 n) = ix2 R k := by
      have := R.isLt
      have := k.isLt
      funext a
      match a with
      | ⟨0, _⟩ => exact Fin.ext (show n.val / 8 = R.val by omega)
      | ⟨1, _⟩ => exact Fin.ext (show n.val % 8 = k.val by omega)
    rw [this, indices_eq x0 x2 x3 x4 h3 h4 hb]
  rw [val_main_v31_apply, e1, val_main_v30_apply, val_main_v27_apply, val_main_v26_apply, val_main_c_apply, e2]
  exact word_wrap _ _

/-- Every choice of a token carries the token's mask. -/
theorem carried_eq (R : Fin 16384) (k : Fin 8) : val_main_v23 (F := Ideal) x1 (flat (R, k)) = refMsk x1 R := by
  rw [val_main_v23_apply, val_main_v22_apply]
  unfold refMsk
  refine congrArg _ ?_
  refine (ValueIdx.eq_ix1 _).trans (congrArg ix1 (Fin.ext ?_))
  show (R.val * 8 + k.val) / 8 = R.val
  have := k.isLt
  omega

/-- Over the eight choices of a token at most one names an expert, so they add the token's mask once or not at all. -/
theorem choices_sum (l : Row) (hl : ∀ e, l e ≠ ⊥) (e : Fin 64) (q : EReal) :
    (∑ k : Fin 8, if sel l k.val = e then q else 0) = q * taken l e := by
  by_cases h : ∃ j, j < 8 ∧ sel l j = e
  · obtain ⟨j, hj, hje⟩ := h
    rw [← taken_eq l e True ⟨fun _ => ⟨j, hj, hje⟩, fun _ => trivial⟩, if_pos trivial, mul_one,
      Finset.sum_eq_single (⟨j, hj⟩ : Fin 8), if_pos hje]
    · intro k _ hk
      refine if_neg fun hke => hk (Fin.ext ?_)
      exact sel_inj hl (lt_trans k.isLt (by decide)) (lt_trans hj (by decide)) (hke.trans hje.symm)
    · intro hn
      exact absurd (Finset.mem_univ _) hn
  · rw [← taken_eq l e False ⟨fun f => f.elim, fun g => h g⟩, if_neg not_false, mul_zero]
    exact Finset.sum_eq_zero fun k _ => if_neg fun hke => h ⟨k.val, k.isLt, hke⟩

include h3 h4 hb in
/-- The reference's counts: each expert's number of tokens that take it, weighted by the mask. -/
theorem counts_eq (e : Fin 64) :
    val_main_v32 (F := Ideal) x0 x1 x2 x3 x4 (ix1 e) = ∑ R : Fin 16384, refMsk x1 R * taken (refRow x0 x2 R) e := by
  unfold val_main_v32
  simp only [Host.scatterAdd, Ideal.hostScatterAdd_def]
  unfold Ideal.hostScatterAdd
  rw [val_main_v24_apply, val_main_cst_2_apply]
  have e0 : (FloatOps.ofBits (F := Ideal) .f32 0x00000000#32 : EReal) = 0 := Ideal.ofBits_zero_f32
  rw [e0, zero_add, Finset.sum_filter, ← Equiv.sum_comp flat, Fintype.sum_prod_type]
  refine Finset.sum_congr rfl fun R _ => ?_
  rw [← choices_sum (refRow x0 x2 R) (hb R) e]
  refine Finset.sum_congr rfl fun k _ => ?_
  rw [carried_eq]
  refine if_congr ?_ rfl rfl
  have hn : R.val * 8 + k.val < 131072 := by have := R.isLt; have := k.isLt; omega
  refine (scatter_one scatter_S64_S131072x1_S131072_n_0_0_1 rfl rfl rfl rfl _ ⟨R.val * 8 + k.val, hn⟩ e).trans ?_
  rw [choice_eq x0 x2 x3 x4 h3 h4 hb R k ⟨R.val * 8 + k.val, hn⟩ rfl, word_int]
  exact ⟨fun h => Fin.ext (by exact_mod_cast h), fun h => by rw [h]⟩

/-- The place of an expert in a vector over the experts. -/
def place : Fin 64 ≃ S64.Idx where
  toFun e := ix1 e
  invFun j := j 0
  left_inv _ := rfl
  right_inv j := (ValueIdx.eq_ix1 j).symm

/-- A reduction of a vector to one value runs over every place. -/
theorem vec_all (h : S64.ReducesTo [0] S_) (j : S_.Idx) :
    (Finset.univ.filter fun i : S64.Idx => h.drop i = j) = (Finset.univ : Finset (Fin 64)).map place.toEmbedding := by
  ext i
  simp only [Finset.mem_filter, Finset.mem_univ, true_and, Finset.mem_map]
  refine ⟨fun _ => ⟨i 0, (ValueIdx.eq_ix1 i).symm⟩, fun _ => funext fun a => a.elim0⟩

include h3 h4 hb in
/-- The reference's load statistic. -/
theorem stat_eq (i : S1x1.Idx) :
    val_main_v39 (F := Ideal) x0 x1 x2 x3 x4 i = loadStat fun e => ∑ R : Fin 16384, refMsk x1 R * taken (refRow x0 x2 R) e := by
  have hmax : ∀ j, val_main_v33 (F := Ideal) x0 x1 x2 x3 x4 j
      = (Finset.univ : Finset (Fin 64)).fold max (⊥ : EReal) fun e => ∑ R : Fin 16384, refMsk x1 R * taken (refRow x0 x2 R) e := by
    intro j
    unfold val_main_v33
    rw [Host.reduce_eq_fold, vec_all, Finset.fold_map, val_main_cst_4_apply]
    have e0 : (FloatOps.ofBits (F := Ideal) .f32 0xFF800000#32 : EReal) = ⊥ := ofBits_neg_inf
    rw [e0]
    exact congrArg (fun f => (Finset.univ : Finset (Fin 64)).fold max (⊥ : EReal) f) (funext fun e => counts_eq x0 x1 x2 x3 x4 h3 h4 hb e)
  have hsum : ∀ j, val_main_v34 (F := Ideal) x0 x1 x2 x3 x4 j = ∑ e : Fin 64, ∑ R : Fin 16384, refMsk x1 R * taken (refRow x0 x2 R) e := by
    intro j
    rw [val_main_v34_apply, val_main_cst_5_apply]
    have e0 : (FloatOps.ofBits (F := Ideal) .f32 0x00000000#32 : EReal) = 0 := Ideal.ofBits_zero_f32
    rw [e0, zero_add, ← Equiv.sum_comp place]
    exact Finset.sum_congr rfl fun e _ => counts_eq x0 x1 x2 x3 x4 h3 h4 hb e
  unfold val_main_v39
  rw [shapeCast_apply _ shapeCasts_S_S1x1 i ix0 (Nat.lt_one_iff.mp (lt_of_lt_of_eq (Fin.isLt _) rfl) |>.trans
    (Nat.lt_one_iff.mp (lt_of_lt_of_eq (Fin.isLt _) rfl)).symm), val_main_v38_apply, val_main_v37_apply, val_main_v36_apply, val_main_v35_apply, hmax, hsum]
  rfl

end

end Cert.Router

end
-- ==== Proof.Router.Inputs.lean ====
/- The arrays the kernel's blocks read, as functions of the arguments: they give the reference's logits and mask. -/
module

public import proofs.«01_k».proof.Proof.Router.Arrays
public import proofs.«01_k».proof.Proof.Router.Reference
public import Idealize.ShloMosaic.Lib.StableHlo.Run

@[expose] public section

noncomputable section

namespace Cert.Router

open Idealize.ShloMosaic hiding ix0 ix1 ix2 ix3 ix4 ix5
open Idealize.ShloMosaic.ValueIdx Idealize.ShloMosaic.TcCoe Cert.KernelIdeal Cert.KernelIdeal.Gen Idealize.SL.Sem

variable (m : (ℓ : Loc nD τ sig) → Buf (Elt Ideal) ℓ) (c : Dev nD)

/-- The hidden states the kernel reads, flattened over batch and sequence. -/
theorem hid_eq : hid m c = shapeCast S16384x4096 (m ((c.tc : Thread nD τ).loc main_arg0) : S4x4096x4096.Idx → EReal) shapeCasts_S4x4096x4096_S16384x4096 := by
  show StableHlo.after hostOps0 _ (Proc.devRef .tc main_v0) = _
  after_results
  rfl

/-- The mask the kernel reads, as numbers, a block of tokens to a row. -/
theorem msk_eq : msk m c = uitofp (F := Ideal) .f32 (shapeCast S16x1x1024 (m ((c.tc : Thread nD τ).loc main_arg1) : S4x4096.Idx → BitVec 1) shapeCasts_S4x4096_S16x1x1024) := by
  show StableHlo.after hostOps0 _ (Proc.devRef .tc main_v2) = _
  after_results
  rfl

/-- The kernel's logits are the reference's. -/
theorem rowAt_eq (R : Fin 16384) :
    rowAt m c R = refRow (m ((c.tc : Thread nD τ).loc main_arg0)) (m ((c.tc : Thread nD τ).loc main_arg2)) R := by
  funext e
  rw [refRow_eq]
  unfold rowAt
  rw [hid_eq]
  refine Finset.sum_congr rfl fun k _ => congrArg₂ (· * ·) rfl ?_
  exact congrFun (V_main_arg2 m c) _

/-- The kernel's mask is the reference's. -/
theorem mskAt_eq (R : Fin 16384) : mskAt m c R = refMsk (m ((c.tc : Thread nD τ).loc main_arg1)) R := by
  unfold mskAt refMsk
  rw [msk_eq, Cert.ReferenceIdeal.Read.val_main_v21_apply, Cert.ReferenceIdeal.Read.val_main_v1_apply]
  refine congrArg (FloatOps.uitofp (F := Ideal) .f32) (shapeCast_apply _ _ _ _ ?_)
  show (S4x4096.rowMajor _).val = _
  rw [Shape.rowMajor_val_two, Shape.rowMajor_val_three]
  have := R.isLt
  show R.val / 4096 * 4096 + R.val % 4096 = (R.val / 1024 * 1 + 0) * 1024 + R.val % 1024
  omega

end Cert.Router

end
-- ==== Proof.Router.Pre.lean ====
/- What the precondition says: no biases, no logit at -∞, and an expert outside the eight selected has a logit below +∞. -/
module

public import proofs.«01_k».proof.Proof.Router.Reference
public import proofs.«01_k».proof.Pre_router_inputs
public import Idealize.ShloMosaic.Lib.Affine

@[expose] public section

noncomputable section

namespace Cert.Router

open Idealize.ShloMosaic hiding ix0 ix1 ix2 ix3 ix4 ix5
open Idealize.ShloMosaic.ValueIdx Idealize.ShloMosaic.TcCoe Cert.Pre_router_inputs

/-- An ordered greater-than comparison that holds. -/
theorem gt_of_bit {x y : EReal} (h : Ideal.cmp .ogt x y = 1#1) : y < x := by
  by_contra hn
  unfold Ideal.cmp at h
  simp [hn] at h

/-- An ordered equality comparison that holds. -/
theorem eq_of_bit {x y : EReal} (h : Ideal.cmp .oeq x y = 1#1) : x = y := by
  by_contra hn
  unfold Ideal.cmp at h
  simp [hn] at h

/-- A value spread over an array from a scalar constant. -/
theorem spread_apply {t : Shape} (h : S_.BroadcastsInDim t (![] : Fin 0 → Fin t.rank)) (v : S_.Idx → EReal) (i : t.Idx) :
    broadcastInDim t ![] h v i = v ix0 :=
  broadcastInDim_apply _ h v i ix0 fun a => a.elim0

variable [hP : Cert.Pre_router_inputs.Facts]

/-- The logits the precondition speaks of. -/
def preLogits (x0 : Hid) (x2 : Wts) : S16384x64.Idx → EReal :=
  Host.dotGeneral (F := Ideal) (φ₁ := .f32) (φ₂ := .f32) dot_S16384x4096_S4096x64_S16384x64_1_0_0_1_n_n none (shapeCast S16384x4096 x0 Facts.shapeCasts_S4x4096x4096_S16384x4096)
    (transpose S4096x64 [1, 0] x2 Facts.transposes_S64x4096_S4096x64_1_0)

/-- They are the reference's logits. -/
theorem preLogits_eq (x0 : Hid) (x2 : Wts) (R : Fin 16384) (e : Fin 64) : preLogits x0 x2 (ix2 R e) = refRow x0 x2 R e := rfl

/-- A scalar has one place. -/
instance : Subsingleton S_.Idx := ⟨fun a b => funext fun i => i.elim0⟩

/-- A conjunction of four bits that holds, bit by bit. -/
theorem four_bits (a b c d : IVec S_ 1) (h : andi (andi a b) (andi c d) = fun _ => 1#1) :
    (a ix0 = 1#1 ∧ b ix0 = 1#1) ∧ c ix0 = 1#1 ∧ d ix0 = 1#1 := by
  have h0 : IntOp.andi (IntOp.andi (a ix0) (b ix0)) (IntOp.andi (c ix0) (d ix0)) = 1#1 := congrFun h ix0
  exact ⟨IntOp.andi_eq_one.mp (IntOp.andi_eq_one.mp h0).1, IntOp.andi_eq_one.mp (IntOp.andi_eq_one.mp h0).2⟩

/-- A conjunction over an array of greater-than comparisons that holds, at each element. -/
theorem all_gt {s : Shape} {axes : List (Fin s.rank)} (a b : FVec Ideal s .f32) (init : IVec S_ 1) (h : s.ReducesTo axes S_) (hu : 0 < S_.numel)
    (e : Host.reduce IntOp.andi (cmpf .ogt a b) init h hu ix0 = 1#1) (i : s.Idx) : b i < a i :=
  gt_of_bit (Host.reduce_andi_all (cmpf .ogt a b) init h hu ix0 e i)

/-- A conjunction over an array of equality comparisons that holds, at each element. -/
theorem all_eq {s : Shape} {axes : List (Fin s.rank)} (a b : FVec Ideal s .f32) (init : IVec S_ 1) (h : s.ReducesTo axes S_) (hu : 0 < S_.numel)
    (e : Host.reduce IntOp.andi (cmpf .oeq a b) init h hu ix0 = 1#1) (i : s.Idx) : a i = b i :=
  eq_of_bit (Host.reduce_andi_all (cmpf .oeq a b) init h hu ix0 e i)

/-- The precondition's four parts, each at an element. -/
theorem pre_parts (x0 : Hid) (x1 : Msk) (x2 : Wts) (x3 x4 : Bias) (h : Cert.Pre_router_inputs.fn (F := Ideal) x0 x1 x2 x3 x4 = fun _ => 1#1) :
    (∀ R (k : Fin 8),
        (Host.topK S16384x9 1 (FloatOps.cmpfTotal (F := Ideal) (φ := .f32) .gt) (preLogits x0 x2) Facts.sliceFits_S16384x64_S16384x9).1 (ix2 R ⟨k.val + 1, by omega⟩)
          < (Host.topK S16384x9 1 (FloatOps.cmpfTotal (F := Ideal) (φ := .f32) .gt) (preLogits x0 x2) Facts.sliceFits_S16384x64_S16384x9).1 (ix2 R ⟨k.val, by omega⟩))
      ∧ (∀ R e, refRow x0 x2 R e ≠ ⊥) ∧ (∀ e, x3 (ix1 e) = (0 : EReal)) ∧ ∀ e, x4 (ix1 e) = (0 : EReal) := by
  unfold Cert.Pre_router_inputs.fn Cert.Pre_router_inputs.fn_part1 at h
  dsimp only at h
  obtain ⟨⟨hd, hb⟩, h3, h4⟩ := four_bits _ _ _ _ h
  refine ⟨fun R k => ?_, fun R e => ?_, fun e => ?_, fun e => ?_⟩
  · have := all_gt _ _ _ _ _ hd (ix2 R k)
    unfold extractStridedSlice at this
    refine lt_of_eq_of_lt (congrArg _ (funext fun a => ?_)) (lt_of_lt_of_eq this (congrArg _ (funext fun a => ?_)))
    · match a with
      | ⟨0, _⟩ => exact Fin.ext (Nat.zero_add _).symm
      | ⟨1, _⟩ => exact Fin.ext (Nat.add_comm _ _)
    · match a with
      | ⟨0, _⟩ => exact Fin.ext (Nat.zero_add _)
      | ⟨1, _⟩ => exact Fin.ext (Nat.zero_add _)
  · have := all_gt _ _ _ _ _ hb (ix2 R e)
    rw [spread_apply] at this
    exact (lt_of_eq_of_lt ofBits_neg_inf.symm this).ne'
  · have := all_eq _ _ _ _ _ h3 (ix1 e)
    rw [spread_apply] at this
    exact this.trans Ideal.ofBits_zero_f32
  · have := all_eq _ _ _ _ _ h4 (ix1 e)
    rw [spread_apply] at this
    exact this.trans Ideal.ofBits_zero_f32

/-- A place of the precondition's sorted prefix is the logit the round of that number takes. -/
theorem pre_place (x0 : Hid) (x2 : Wts) (hb : ∀ R e, refRow x0 x2 R e ≠ ⊥) (R : Fin 16384) (k : Fin 9) :
    (Host.topK S16384x9 1 (FloatOps.cmpfTotal (F := Ideal) (φ := .f32) .gt) (preLogits x0 x2) Facts.sliceFits_S16384x64_S16384x9).1 (ix2 R k)
      = refRow x0 x2 R (sel (refRow x0 x2 R) k.val) := by
  have hk : k.val < 64 := lt_trans k.isLt (by decide)
  refine (topK_fst _ _ _ R k hk).trans ?_
  rw [preLogits_eq]
  have : (fun a b : Fin 64 => FloatOps.cmpfTotal (F := Ideal) (φ := .f32) .gt (preLogits x0 x2 (ix2 R a)) (preLogits x0 x2 (ix2 R b)) == 1#1)
      = fun a b : Fin 64 => Ideal.cmpTotal .gt (refRow x0 x2 R a) (refRow x0 x2 R b) == 1#1 := by
    funext a b
    rw [preLogits_eq, preLogits_eq]
    rfl
  rw [this, sortedFrom_eq_sel (hb R) ⟨k.val, hk⟩]

/-- An expert no round selects has a logit below +∞: the ninth greatest is below the eighth. -/
theorem unselected_lt_top (x0 : Hid) (x1 : Msk) (x2 : Wts) (x3 x4 : Bias) (h : Cert.Pre_router_inputs.fn (F := Ideal) x0 x1 x2 x3 x4 = fun _ => 1#1)
    (R : Fin 16384) (e : Fin 64) (he : ∀ j, j < 8 → sel (refRow x0 x2 R) j ≠ e) : refRow x0 x2 R e ≠ ⊤ := by
  obtain ⟨hd, hb, -, -⟩ := pre_parts x0 x1 x2 x3 x4 h
  have h1 := hd R 7
  rw [pre_place x0 x2 hb, pre_place x0 x2 hb] at h1
  exact ((le_sel (hb R) (show 8 < 64 by decide) he).trans_lt (lt_of_lt_of_le h1 le_top)).ne

end Cert.Router

end
-- ==== Proof.Router.Equation.lean ====
/- Under the precondition the kernel's three results are the reference's, array by array. -/
module

public import proofs.«01_k».proof.Proof.Router.Inputs
public import proofs.«01_k».proof.Proof.Router.Pre
public import proofs.«01_k».proof.Proof.Gen.Pre_router_inputs

@[expose] public section

noncomputable section

namespace Cert.Router

open Idealize.ShloMosaic hiding ix0 ix1 ix2 ix3 ix4 ix5
open Idealize.ShloMosaic.ValueIdx Idealize.ShloMosaic.TcCoe Cert.KernelIdeal Cert.KernelIdeal.Gen Idealize.SL.Sem Cert.ReferenceIdeal.Read

variable (m : (ℓ : Loc nD τ sig) → Buf (Elt Ideal) ℓ) (c : Dev nD)

/-- The precondition of one device's arguments. -/
abbrev Holds : Prop :=
  Cert.Pre_router_inputs.fn (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) = fun _ => 1#1

variable (h : Holds m c)

include h in
/-- The selected experts agree. -/
theorem idx_equal : ((dats m 0 c).arrAt 3 cfg0.N : S16384x8.Idx → BitVec 32)
    = val_main_indices (F := Ideal) (m ((c.tc : Thread nD τ).loc main_arg0)) (m ((c.tc : Thread nD τ).loc main_arg2)) (m ((c.tc : Thread nD τ).loc main_arg3))
      (m ((c.tc : Thread nD τ).loc main_arg4)) := by
  obtain ⟨-, hb, h3, h4⟩ := pre_parts _ _ _ _ _ h
  funext i
  obtain ⟨R, k, rfl⟩ : ∃ R k, i = ix2 R k := ⟨_, _, ValueIdx.eq_ix2 i⟩
  rw [final3, rowAt_eq]
  exact (indices_eq _ _ _ _ h3 h4 hb R k).symm

include h in
/-- Their weights agree. -/
theorem prob_equal : ((dats m 0 c).arrAt 4 cfg0.N : S16384x8.Idx → EReal)
    = val_main_v20 (F := Ideal) (m ((c.tc : Thread nD τ).loc main_arg0)) (m ((c.tc : Thread nD τ).loc main_arg2)) (m ((c.tc : Thread nD τ).loc main_arg3))
      (m ((c.tc : Thread nD τ).loc main_arg4)) := by
  obtain ⟨-, hb, h3, h4⟩ := pre_parts _ _ _ _ _ h
  funext i
  obtain ⟨R, k, rfl⟩ : ∃ R k, i = ix2 R k := ⟨_, _, ValueIdx.eq_ix2 i⟩
  rw [final4 m c (fun R e => by rw [rowAt_eq]; exact hb R e), rowAt_eq]
  exact (probs_eq _ _ _ _ h3 h4 hb R k).symm

include h in
/-- The load statistic agrees. -/
theorem stat_equal : ((dats m 0 c).arrAt 6 cfg0.N : S1x1.Idx → EReal)
    = val_main_v39 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  obtain ⟨-, hb, h3, h4⟩ := pre_parts _ _ _ _ _ h
  funext i
  have ht : totals m c = fun e => ∑ R : Fin 16384, refMsk (m ((c.tc : Thread nD τ).loc main_arg1)) R
      * taken (refRow (m ((c.tc : Thread nD τ).loc main_arg0)) (m ((c.tc : Thread nD τ).loc main_arg2)) R) e := by
    funext e
    unfold totals
    exact Finset.sum_congr rfl fun R _ => by rw [rowAt_eq, mskAt_eq]
  rw [final6 m c (fun R e => by rw [rowAt_eq]; exact hb R e) (fun R e he => by
    rw [rowAt_eq] at he ⊢
    exact unselected_lt_top _ _ _ _ _ h R e he), ht]
  exact (stat_eq _ _ _ _ _ h3 h4 hb i).symm

end Cert.Router

end
-- ==== Proof.lean ====
/- The proof of the claims: the frames of the three programs, the idealization, and that kernel and reference end with the same results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_router_inputs
public import proofs.«01_k».proof.Proof.Gen.KernelIdeal.Value
public import proofs.«01_k».proof.Proof.Gen.ReferenceIdeal.Run
public import proofs.«01_k».proof.Proof.Gen.ReferenceIdeal.Read
public import proofs.«01_k».proof.Proof.Router.Equation
public import Idealize.ShloMosaic.Adequacy
public import Idealize.ShloMosaic.Init

@[expose] public section

noncomputable section

namespace Cert.Proof

open Idealize.ShloMosaic Idealize.SL.Sem Cert.Kernel

/-- The kernel and the reference end with the same three results. -/
theorem agrees : Cert.algebraic_KernelIdeal_ReferenceIdeal (hKernelIdeal := Cert.KernelIdeal.Gen.facts)
    (hReferenceIdeal := Cert.ReferenceIdeal.Gen.facts) (hPre_router_inputs := Cert.Pre_router_inputs.Gen.facts) := by
  intro m g m' g' hpre hargs
  refine ⟨fun c => (Cert.KernelIdeal.Gen.dats m 0 c).arrAt 3 Cert.KernelIdeal.cfg0.N,
    fun c => (Cert.KernelIdeal.Gen.dats m 0 c).arrAt 4 Cert.KernelIdeal.cfg0.N,
    fun c => (Cert.KernelIdeal.Gen.dats m 0 c).arrAt 6 Cert.KernelIdeal.cfg0.N,
    (θ_run Cert.KernelIdeal.defs _ _).mono (fun r h c => ?_) (Cert.KernelIdeal.Value.run_blocks m g),
    (θ_run Cert.ReferenceIdeal.defs _ _).mono (fun r h c => ?_) (Cert.ReferenceIdeal.Value.run (F := Ideal) m' g')⟩
  · obtain ⟨h0, h1, -, h2, ha⟩ := h c
    exact ⟨h0, h1, h2, ha⟩
  · obtain ⟨h0, h1, h2, ha⟩ := h c
    obtain ⟨e0, e1, e2, e3, e4⟩ := hargs c
    refine ⟨h0.trans ?_, h1.trans ?_, h2.trans ?_, ha⟩
    · refine (Cert.ReferenceIdeal.Read.val_main_indices_eq (F := Ideal) _ _ _ _).trans ?_
      rw [e0, e2, e3, e4]
      exact (Cert.Router.idx_equal m c (hpre c)).symm
    · refine (Cert.ReferenceIdeal.Read.val_main_v20_eq (F := Ideal) m' c).trans ?_
      rw [e0, e2, e3, e4]
      exact (Cert.Router.prob_equal m c (hpre c)).symm
    · refine (Cert.ReferenceIdeal.Read.val_main_v39_eq (F := Ideal) m' c).trans ?_
      rw [e0, e1, e2, e3, e4]
      exact (Cert.Router.stat_equal m c (hpre c)).symm

/-- The reference runs, keeps its arguments and declares no semaphore. -/
theorem kept : Cert.quiescent_ReferenceIdeal (hReferenceIdeal := Cert.ReferenceIdeal.Gen.facts) := by
  intro m g _
  exact (θ_run Cert.ReferenceIdeal.defs _ _).mono (fun r h => ⟨fun c => (h c).2.2.2, sem_eq_zero_of_no_sems (by decide) r.2⟩)
    (Cert.ReferenceIdeal.Value.run (F := Ideal) m g)

/-- Everything claimed of the three programs. -/
theorem claim : Cert.Claim :=
  ⟨Cert.Kernel.Gen.facts, Cert.KernelIdeal.Gen.facts, Cert.ReferenceIdeal.Gen.facts, Cert.Pre_router_inputs.Gen.facts,
    fun m ρ _ => Cert.Kernel.Gen.frame m ρ, fun m ρ _ => Cert.Kernel.Gen.frame m ρ, fun m ρ _ => Cert.KernelIdeal.Gen.frame m ρ,
    kept, fun m g _ => kept m g trivial, trivial, agrees⟩

end Cert.Proof

end
